-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_in_range [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_in_range [hPre_edges_in_range : Cert.Pre_edges_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_edges_in_range [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_edges_in_range [hReferenceIdeal : Cert.ReferenceIdeal.Facts] [hPre_edges_in_range : Cert.Pre_edges_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_edges_in_range [hKernelIdeal : Cert.KernelIdeal.Facts] [hReferenceIdeal : Cert.ReferenceIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_edges_in_range : Cert.Pre_edges_in_range.Facts),
    quiescent_Kernel (hKernel := hKernel)
    ∧ quiescent_KernelIdeal (hKernelIdeal := hKernelIdeal)
    ∧ quiescent_KernelIdeal_pre_edges_in_range (hKernelIdeal := hKernelIdeal) (hPre_edges_in_range := hPre_edges_in_range)
    ∧ quiescent_ReferenceIdeal (hReferenceIdeal := hReferenceIdeal)
    ∧ quiescent_ReferenceIdeal_pre_edges_in_range (hReferenceIdeal := hReferenceIdeal) (hPre_edges_in_range := hPre_edges_in_range)
    ∧ preserves_Kernel_KernelIdeal
    ∧ algebraic_KernelIdeal_ReferenceIdeal_pre_edges_in_range (hKernelIdeal := hKernelIdeal) (hReferenceIdeal := hReferenceIdeal) (hPre_edges_in_range := hPre_edges_in_range)
-- ==== Pre_edges_in_range.lean ====
abbrev S10000x78 : Shape := ⟨2, ![10000, 78]⟩
abbrev S2x160000 : Shape := ⟨2, ![2, 160000]⟩
abbrev S10000 : Shape := ⟨1, ![10000]⟩
abbrev S78x640 : Shape := ⟨2, ![78, 640]⟩
abbrev S1x10x64 : Shape := ⟨3, ![1, 10, 64]⟩
abbrev S640 : Shape := ⟨1, ![640]⟩
abbrev S640x64 : Shape := ⟨2, ![640, 64]⟩
abbrev S1x1x64 : Shape := ⟨3, ![1, 1, 64]⟩
abbrev S64 : Shape := ⟨1, ![64]⟩
abbrev S64x64 : Shape := ⟨2, ![64, 64]⟩
abbrev S_ : Shape := ⟨0, ![]⟩

class Facts : Prop where
  bcast_S_S2x160000 : S_.BroadcastsInDim S2x160000 (![] : Fin 0 → Fin S2x160000.rank)

variable [Facts]

def fn {F : FTy → Type} [FloatOps F] (main_arg0 : FVec F S10000x78 .f32) (main_arg1 : IVec S2x160000 32) (main_arg2 : IVec S10000 32) (main_arg3 : FVec F S78x640 .f32) (main_arg4 : FVec F S1x10x64 .f32) (main_arg5 : FVec F S1x10x64 .f32) (main_arg6 : FVec F S640 .f32) (main_arg7 : FVec F S640x64 .f32) (main_arg8 : FVec F S1x1x64 .f32) (main_arg9 : FVec F S1x1x64 .f32) (main_arg10 : FVec F S64 .f32) (main_arg11 : FVec F S64x64 .f32) (main_arg12 : FVec F S64 .f32) : IVec S2x160000 1 :=
  let main_c : IVec S_ 32 := constantI S_ 32 0#32
  let main_v0 : IVec S2x160000 32 := broadcastInDim S2x160000 ![] bcast_S_S2x160000 main_c
  let main_v1 : IVec S2x160000 1 := cmpi .sge main_arg1 main_v0
  let main_c_0 : IVec S_ 32 := constantI S_ 32 10000#32
  let main_v2 : IVec S2x160000 32 := broadcastInDim S2x160000 ![] bcast_S_S2x160000 main_c_0
  let main_v3 : IVec S2x160000 1 := cmpi .slt main_arg1 main_v2
  let main_v4 : IVec S2x160000 1 := andi main_v1 main_v3
  main_v4
-- ==== Kernel.lean ====
abbrev S10000x78 : Shape := ⟨2, ![10000, 78]⟩
abbrev S2x160000 : Shape := ⟨2, ![2, 160000]⟩
abbrev S10000 : Shape := ⟨1, ![10000]⟩
abbrev S78x640 : Shape := ⟨2, ![78, 640]⟩
abbrev S1x10x64 : Shape := ⟨3, ![1, 10, 64]⟩
abbrev S640 : Shape := ⟨1, ![640]⟩
abbrev S640x64 : Shape := ⟨2, ![640, 64]⟩
abbrev S1x1x64 : Shape := ⟨3, ![1, 1, 64]⟩
abbrev S64 : Shape := ⟨1, ![64]⟩
abbrev S64x64 : Shape := ⟨2, ![64, 64]⟩
abbrev S1x160000 : Shape := ⟨2, ![1, 160000]⟩
abbrev S160000 : Shape := ⟨1, ![160000]⟩
abbrev S170000 : Shape := ⟨1, ![170000]⟩
abbrev S10x10 : Shape := ⟨2, ![10, 10]⟩
abbrev S_ : Shape := ⟨0, ![]⟩
abbrev S10x1x10 : Shape := ⟨3, ![10, 1, 10]⟩
abbrev S10x64 : Shape := ⟨2, ![10, 64]⟩
abbrev S10x64x1 : Shape := ⟨3, ![10, 64, 1]⟩
abbrev S10x64x10 : Shape := ⟨3, ![10, 64, 10]⟩
abbrev S640x10 : Shape := ⟨2, ![640, 10]⟩
abbrev S78 : Shape := ⟨1, ![78]⟩
abbrev S1x78 : Shape := ⟨2, ![1, 78]⟩
abbrev S8x78 : Shape := ⟨2, ![8, 78]⟩
abbrev S10000x640 : Shape := ⟨2, ![10000, 640]⟩
abbrev S10000x10 : Shape := ⟨2, ![10000, 10]⟩
abbrev S1000x78 : Shape := ⟨2, ![1000, 78]⟩
abbrev S1000x640 : Shape := ⟨2, ![1000, 640]⟩
abbrev S1000x10 : Shape := ⟨2, ![1000, 10]⟩
abbrev S170000x1 : Shape := ⟨2, ![170000, 1]⟩
abbrev S1 : Shape := ⟨1, ![1]⟩
abbrev S1x1 : Shape := ⟨2, ![1, 1]⟩
abbrev S170000x10 : Shape := ⟨2, ![170000, 10]⟩
abbrev S170000x640 : Shape := ⟨2, ![170000, 640]⟩
abbrev S2000x640 : Shape := ⟨2, ![2000, 640]⟩
abbrev S2000x10 : Shape := ⟨2, ![2000, 10]⟩
abbrev S2000x64 : Shape := ⟨2, ![2000, 64]⟩
abbrev S2000x1 : Shape := ⟨2, ![2000, 1]⟩
abbrev S1x1x1 : Shape := ⟨3, ![1, 1, 1]⟩
abbrev S1x64 : Shape := ⟨2, ![1, 64]⟩
abbrev S1x64x1 : Shape := ⟨3, ![1, 64, 1]⟩
abbrev S64x1 : Shape := ⟨2, ![64, 1]⟩
abbrev S1x640 : Shape := ⟨2, ![1, 640]⟩
abbrev S8x640 : Shape := ⟨2, ![8, 640]⟩
abbrev S10000x64 : Shape := ⟨2, ![10000, 64]⟩
abbrev S10000x1 : Shape := ⟨2, ![10000, 1]⟩
abbrev S1000x64 : Shape := ⟨2, ![1000, 64]⟩
abbrev S1000x1 : Shape := ⟨2, ![1000, 1]⟩
abbrev S170000x64 : Shape := ⟨2, ![170000, 64]⟩
abbrev S8x64 : Shape := ⟨2, ![8, 64]⟩
abbrev S256x64 : Shape := ⟨2, ![256, 64]⟩

abbrev nBuf : Space → Nat
  | .hbm => 297
  | .vmem => 63
  | .smem => 0
  | _ => 0

abbrev hbmTy0_0 (i : Nat) : BufTy := match i % 128 with
  | 0 => ⟨S10000x78, .f32⟩
  | 1 => ⟨S2x160000, .i32⟩
  | 2 => ⟨S10000, .i32⟩
  | 3 => ⟨S78x640, .f32⟩
  | 4 => ⟨S1x10x64, .f32⟩
  | 5 => ⟨S1x10x64, .f32⟩
  | 6 => ⟨S640, .f32⟩
  | 7 => ⟨S640x64, .f32⟩
  | 8 => ⟨S1x1x64, .f32⟩
  | 9 => ⟨S1x1x64, .f32⟩
  | 10 => ⟨S64, .f32⟩
  | 11 => ⟨S64x64, .f32⟩
  | 12 => ⟨S64, .f32⟩
  | 13 => ⟨S10000, .i32⟩
  | 14 => ⟨S1x160000, .i32⟩
  | 15 => ⟨S160000, .i32⟩
  | 16 => ⟨S170000, .i32⟩
  | 17 => ⟨S1x160000, .i32⟩
  | 18 => ⟨S160000, .i32⟩
  | 19 => ⟨S170000, .i32⟩
  | 20 => ⟨S10x10, .i32⟩
  | 21 => ⟨S10x10, .i32⟩
  | 22 => ⟨S_, .i32⟩
  | 23 => ⟨S10x10, .i32⟩
  | 24 => ⟨S10x10, .i32⟩
  | 25 => ⟨S10x10, .i1⟩
  | 26 => ⟨S10x10, .f32⟩
  | 27 => ⟨S10x1x10, .f32⟩
  | 28 => ⟨S10x64, .f32⟩
  | 29 => ⟨S10x64x1, .f32⟩
  | 30 => ⟨S10x64x10, .f32⟩
  | 31 => ⟨S10x64x10, .f32⟩
  | 32 => ⟨S10x64x10, .f32⟩
  | 33 => ⟨S640x10, .f32⟩
  | 34 => ⟨S10x10, .i32⟩
  | 35 => ⟨S10x10, .i32⟩
  | 36 => ⟨S_, .i32⟩
  | 37 => ⟨S10x10, .i32⟩
  | 38 => ⟨S10x10, .i32⟩
  | 39 => ⟨S10x10, .i1⟩
  | 40 => ⟨S10x10, .f32⟩
  | 41 => ⟨S10x1x10, .f32⟩
  | 42 => ⟨S10x64, .f32⟩
  | 43 => ⟨S10x64x1, .f32⟩
  | 44 => ⟨S10x64x10, .f32⟩
  | 45 => ⟨S10x64x10, .f32⟩
  | 46 => ⟨S10x64x10, .f32⟩
  | 47 => ⟨S640x10, .f32⟩
  | 48 => ⟨S_, .f32⟩
  | 49 => ⟨S78, .f32⟩
  | 50 => ⟨S1x78, .f32⟩
  | 51 => ⟨S8x78, .f32⟩
  | 52 => ⟨S10000x640, .f32⟩
  | 53 => ⟨S10000x10, .f32⟩
  | 54 => ⟨S10000x10, .f32⟩
  | 55 => ⟨S_, .i32⟩
  | 56 => ⟨S170000, .i32⟩
  | 57 => ⟨S170000, .i1⟩
  | 58 => ⟨S_, .i32⟩
  | 59 => ⟨S170000, .i32⟩
  | 60 => ⟨S170000, .i32⟩
  | 61 => ⟨S170000, .i32⟩
  | 62 => ⟨S170000x1, .i32⟩
  | 63 => ⟨S1, .i32⟩
  | 64 => ⟨S_, .i32⟩
  | 65 => ⟨S170000x1, .i32⟩
  | 66 => ⟨S170000x1, .i1⟩
  | 67 => ⟨S1x1, .i32⟩
  | 68 => ⟨S170000x1, .i32⟩
  | 69 => ⟨S170000x1, .i1⟩
  | 70 => ⟨S170000x1, .i1⟩
  | 71 => ⟨S_, .i1⟩
  | 72 => ⟨S170000, .i1⟩
  | 73 => ⟨S170000x10, .f32⟩
  | 74 => ⟨S170000x10, .i1⟩
  | 75 => ⟨S_, .f32⟩
  | 76 => ⟨S170000x10, .f32⟩
  | 77 => ⟨S170000x10, .f32⟩
  | 78 => ⟨S_, .i32⟩
  | 79 => ⟨S170000, .i32⟩
  | 80 => ⟨S170000, .i1⟩
  | 81 => ⟨S_, .i32⟩
  | 82 => ⟨S170000, .i32⟩
  | 83 => ⟨S170000, .i32⟩
  | 84 => ⟨S170000, .i32⟩
  | 85 => ⟨S170000x1, .i32⟩
  | 86 => ⟨S1, .i32⟩
  | 87 => ⟨S_, .i32⟩
  | 88 => ⟨S170000x1, .i32⟩
  | 89 => ⟨S170000x1, .i1⟩
  | 90 => ⟨S1x1, .i32⟩
  | 91 => ⟨S170000x1, .i32⟩
  | 92 => ⟨S170000x1, .i1⟩
  | 93 => ⟨S170000x1, .i1⟩
  | 94 => ⟨S_, .i1⟩
  | 95 => ⟨S170000, .i1⟩
  | 96 => ⟨S170000x10, .f32⟩
  | 97 => ⟨S170000x10, .i1⟩
  | 98 => ⟨S_, .f32⟩
  | 99 => ⟨S170000x10, .f32⟩
  | 100 => ⟨S170000x10, .f32⟩
  | 101 => ⟨S170000x10, .f32⟩
  | 102 => ⟨S_, .f32⟩
  | 103 => ⟨S10000x10, .f32⟩
  | 104 => ⟨S170000x1, .i32⟩
  | 105 => ⟨S10000x10, .f32⟩
  | 106 => ⟨S_, .i32⟩
  | 107 => ⟨S170000, .i32⟩
  | 108 => ⟨S170000, .i1⟩
  | 109 => ⟨S_, .i32⟩
  | 110 => ⟨S170000, .i32⟩
  | 111 => ⟨S170000, .i32⟩
  | 112 => ⟨S170000, .i32⟩
  | 113 => ⟨S170000x1, .i32⟩
  | 114 => ⟨S1, .i32⟩
  | 115 => ⟨S_, .i32⟩
  | 116 => ⟨S170000x1, .i32⟩
  | 117 => ⟨S170000x1, .i1⟩
  | 118 => ⟨S1x1, .i32⟩
  | 119 => ⟨S170000x1, .i32⟩
  | 120 => ⟨S170000x1, .i1⟩
  | 121 => ⟨S170000x1, .i1⟩
  | 122 => ⟨S_, .i1⟩
  | 123 => ⟨S170000, .i1⟩
  | 124 => ⟨S170000x640, .f32⟩
  | 125 => ⟨S170000x640, .i1⟩
  | 126 => ⟨S_, .f32⟩
  | 127 => ⟨S170000x640, .f32⟩
  | _ => ⟨S10000x78, .f32⟩

abbrev hbmTy0_1 (i : Nat) : BufTy := match i % 128 with
  | 0 => ⟨S170000x640, .f32⟩
  | 1 => ⟨S_, .i32⟩
  | 2 => ⟨S170000, .i32⟩
  | 3 => ⟨S170000, .i1⟩
  | 4 => ⟨S_, .i32⟩
  | 5 => ⟨S170000, .i32⟩
  | 6 => ⟨S170000, .i32⟩
  | 7 => ⟨S170000, .i32⟩
  | 8 => ⟨S170000x1, .i32⟩
  | 9 => ⟨S1, .i32⟩
  | 10 => ⟨S_, .i32⟩
  | 11 => ⟨S170000x1, .i32⟩
  | 12 => ⟨S170000x1, .i1⟩
  | 13 => ⟨S1x1, .i32⟩
  | 14 => ⟨S170000x1, .i32⟩
  | 15 => ⟨S170000x1, .i1⟩
  | 16 => ⟨S170000x1, .i1⟩
  | 17 => ⟨S_, .i1⟩
  | 18 => ⟨S170000, .i1⟩
  | 19 => ⟨S170000x10, .f32⟩
  | 20 => ⟨S170000x10, .i1⟩
  | 21 => ⟨S_, .f32⟩
  | 22 => ⟨S170000x10, .f32⟩
  | 23 => ⟨S170000x10, .f32⟩
  | 24 => ⟨S170000x640, .f32⟩
  | 25 => ⟨S_, .f32⟩
  | 26 => ⟨S10000x640, .f32⟩
  | 27 => ⟨S170000x1, .i32⟩
  | 28 => ⟨S10000x640, .f32⟩
  | 29 => ⟨S1x1, .i32⟩
  | 30 => ⟨S1x1, .i32⟩
  | 31 => ⟨S_, .i32⟩
  | 32 => ⟨S1x1, .i32⟩
  | 33 => ⟨S1x1, .i32⟩
  | 34 => ⟨S1x1, .i1⟩
  | 35 => ⟨S1x1, .f32⟩
  | 36 => ⟨S1x1x1, .f32⟩
  | 37 => ⟨S1x64, .f32⟩
  | 38 => ⟨S1x64x1, .f32⟩
  | 39 => ⟨S1x64x1, .f32⟩
  | 40 => ⟨S1x64x1, .f32⟩
  | 41 => ⟨S64x1, .f32⟩
  | 42 => ⟨S1x1, .i32⟩
  | 43 => ⟨S1x1, .i32⟩
  | 44 => ⟨S_, .i32⟩
  | 45 => ⟨S1x1, .i32⟩
  | 46 => ⟨S1x1, .i32⟩
  | 47 => ⟨S1x1, .i1⟩
  | 48 => ⟨S1x1, .f32⟩
  | 49 => ⟨S1x1x1, .f32⟩
  | 50 => ⟨S1x64, .f32⟩
  | 51 => ⟨S1x64x1, .f32⟩
  | 52 => ⟨S1x64x1, .f32⟩
  | 53 => ⟨S1x64x1, .f32⟩
  | 54 => ⟨S64x1, .f32⟩
  | 55 => ⟨S1x640, .f32⟩
  | 56 => ⟨S8x640, .f32⟩
  | 57 => ⟨S10000x64, .f32⟩
  | 58 => ⟨S10000x1, .f32⟩
  | 59 => ⟨S10000x1, .f32⟩
  | 60 => ⟨S_, .i32⟩
  | 61 => ⟨S170000, .i32⟩
  | 62 => ⟨S170000, .i1⟩
  | 63 => ⟨S_, .i32⟩
  | 64 => ⟨S170000, .i32⟩
  | 65 => ⟨S170000, .i32⟩
  | 66 => ⟨S170000, .i32⟩
  | 67 => ⟨S170000x1, .i32⟩
  | 68 => ⟨S1, .i32⟩
  | 69 => ⟨S_, .i32⟩
  | 70 => ⟨S170000x1, .i32⟩
  | 71 => ⟨S170000x1, .i1⟩
  | 72 => ⟨S1x1, .i32⟩
  | 73 => ⟨S170000x1, .i32⟩
  | 74 => ⟨S170000x1, .i1⟩
  | 75 => ⟨S170000x1, .i1⟩
  | 76 => ⟨S_, .i1⟩
  | 77 => ⟨S170000, .i1⟩
  | 78 => ⟨S170000x1, .f32⟩
  | 79 => ⟨S170000x1, .i1⟩
  | 80 => ⟨S_, .f32⟩
  | 81 => ⟨S170000x1, .f32⟩
  | 82 => ⟨S170000x1, .f32⟩
  | 83 => ⟨S_, .i32⟩
  | 84 => ⟨S170000, .i32⟩
  | 85 => ⟨S170000, .i1⟩
  | 86 => ⟨S_, .i32⟩
  | 87 => ⟨S170000, .i32⟩
  | 88 => ⟨S170000, .i32⟩
  | 89 => ⟨S170000, .i32⟩
  | 90 => ⟨S170000x1, .i32⟩
  | 91 => ⟨S1, .i32⟩
  | 92 => ⟨S_, .i32⟩
  | 93 => ⟨S170000x1, .i32⟩
  | 94 => ⟨S170000x1, .i1⟩
  | 95 => ⟨S1x1, .i32⟩
  | 96 => ⟨S170000x1, .i32⟩
  | 97 => ⟨S170000x1, .i1⟩
  | 98 => ⟨S170000x1, .i1⟩
  | 99 => ⟨S_, .i1⟩
  | 100 => ⟨S170000, .i1⟩
  | 101 => ⟨S170000x1, .f32⟩
  | 102 => ⟨S170000x1, .i1⟩
  | 103 => ⟨S_, .f32⟩
  | 104 => ⟨S170000x1, .f32⟩
  | 105 => ⟨S170000x1, .f32⟩
  | 106 => ⟨S170000x1, .f32⟩
  | 107 => ⟨S_, .f32⟩
  | 108 => ⟨S10000x1, .f32⟩
  | 109 => ⟨S170000x1, .i32⟩
  | 110 => ⟨S10000x1, .f32⟩
  | 111 => ⟨S_, .i32⟩
  | 112 => ⟨S170000, .i32⟩
  | 113 => ⟨S170000, .i1⟩
  | 114 => ⟨S_, .i32⟩
  | 115 => ⟨S170000, .i32⟩
  | 116 => ⟨S170000, .i32⟩
  | 117 => ⟨S170000, .i32⟩
  | 118 => ⟨S170000x1, .i32⟩
  | 119 => ⟨S1, .i32⟩
  | 120 => ⟨S_, .i32⟩
  | 121 => ⟨S170000x1, .i32⟩
  | 122 => ⟨S170000x1, .i1⟩
  | 123 => ⟨S1x1, .i32⟩
  | 124 => ⟨S170000x1, .i32⟩
  | 125 => ⟨S170000x1, .i1⟩
  | 126 => ⟨S170000x1, .i1⟩
  | 127 => ⟨S_, .i1⟩
  | _ => ⟨S10000x78, .f32⟩

abbrev hbmTy0_2 (i : Nat) : BufTy := match i % 128 with
  | 0 => ⟨S170000, .i1⟩
  | 1 => ⟨S170000x64, .f32⟩
  | 2 => ⟨S170000x64, .i1⟩
  | 3 => ⟨S_, .f32⟩
  | 4 => ⟨S170000x64, .f32⟩
  | 5 => ⟨S170000x64, .f32⟩
  | 6 => ⟨S_, .i32⟩
  | 7 => ⟨S170000, .i32⟩
  | 8 => ⟨S170000, .i1⟩
  | 9 => ⟨S_, .i32⟩
  | 10 => ⟨S170000, .i32⟩
  | 11 => ⟨S170000, .i32⟩
  | 12 => ⟨S170000, .i32⟩
  | 13 => ⟨S170000x1, .i32⟩
  | 14 => ⟨S1, .i32⟩
  | 15 => ⟨S_, .i32⟩
  | 16 => ⟨S170000x1, .i32⟩
  | 17 => ⟨S170000x1, .i1⟩
  | 18 => ⟨S1x1, .i32⟩
  | 19 => ⟨S170000x1, .i32⟩
  | 20 => ⟨S170000x1, .i1⟩
  | 21 => ⟨S170000x1, .i1⟩
  | 22 => ⟨S_, .i1⟩
  | 23 => ⟨S170000, .i1⟩
  | 24 => ⟨S170000x1, .f32⟩
  | 25 => ⟨S170000x1, .i1⟩
  | 26 => ⟨S_, .f32⟩
  | 27 => ⟨S170000x1, .f32⟩
  | 28 => ⟨S170000x1, .f32⟩
  | 29 => ⟨S170000x64, .f32⟩
  | 30 => ⟨S_, .f32⟩
  | 31 => ⟨S10000x64, .f32⟩
  | 32 => ⟨S170000x1, .i32⟩
  | 33 => ⟨S10000x64, .f32⟩
  | 34 => ⟨S1x64, .f32⟩
  | 35 => ⟨S8x64, .f32⟩
  | 36 => ⟨S10000x64, .f32⟩
  | 37 => ⟨S10000x1, .i32⟩
  | 38 => ⟨S1x64, .f32⟩
  | 39 => ⟨S8x64, .f32⟩
  | 40 => ⟨S256x64, .f32⟩
  | _ => ⟨S10000x78, .f32⟩

abbrev hbmTy (i : Nat) : BufTy := match i / 128 with
  | 0 => hbmTy0_0 i
  | 1 => hbmTy0_1 i
  | 2 => hbmTy0_2 i
  | _ => ⟨S10000x78, .f32⟩

abbrev bufTy : (tb : Table) → Fin (tcTables nBuf tb) → BufTy
  | .hbm, ⟨i, _⟩ => hbmTy i
  | .local _ .vmem, ⟨0, _⟩ => ⟨S1000x78, .f32⟩
  | .local _ .vmem, ⟨1, _⟩ => ⟨S1000x78, .f32⟩
  | .local _ .vmem, ⟨2, _⟩ => ⟨S78x640, .f32⟩
  | .local _ .vmem, ⟨3, _⟩ => ⟨S640x10, .f32⟩
  | .local _ .vmem, ⟨4, _⟩ => ⟨S640x10, .f32⟩
  | .local _ .vmem, ⟨5, _⟩ => ⟨S8x78, .f32⟩
  | .local _ .vmem, ⟨6, _⟩ => ⟨S1000x640, .f32⟩
  | .local _ .vmem, ⟨7, _⟩ => ⟨S1000x640, .f32⟩
  | .local _ .vmem, ⟨8, _⟩ => ⟨S1000x10, .f32⟩
  | .local _ .vmem, ⟨9, _⟩ => ⟨S1000x10, .f32⟩
  | .local _ .vmem, ⟨10, _⟩ => ⟨S1000x10, .f32⟩
  | .local _ .vmem, ⟨11, _⟩ => ⟨S1000x10, .f32⟩
  | .local _ .vmem, ⟨12, _⟩ => ⟨S10000x10, .f32⟩
  | .local _ .vmem, ⟨13, _⟩ => ⟨S10000x10, .f32⟩
  | .local _ .vmem, ⟨14, _⟩ => ⟨S10000x10, .f32⟩
  | .local _ .vmem, ⟨15, _⟩ => ⟨S10000x10, .f32⟩
  | .local _ .vmem, ⟨16, _⟩ => ⟨S10000x10, .f32⟩
  | .local _ .vmem, ⟨17, _⟩ => ⟨S10000x10, .f32⟩
  | .local _ .vmem, ⟨18, _⟩ => ⟨S2000x640, .f32⟩
  | .local _ .vmem, ⟨19, _⟩ => ⟨S2000x640, .f32⟩
  | .local _ .vmem, ⟨20, _⟩ => ⟨S2000x10, .f32⟩
  | .local _ .vmem, ⟨21, _⟩ => ⟨S2000x10, .f32⟩
  | .local _ .vmem, ⟨22, _⟩ => ⟨S2000x10, .f32⟩
  | .local _ .vmem, ⟨23, _⟩ => ⟨S2000x10, .f32⟩
  | .local _ .vmem, ⟨24, _⟩ => ⟨S2000x640, .f32⟩
  | .local _ .vmem, ⟨25, _⟩ => ⟨S2000x640, .f32⟩
  | .local _ .vmem, ⟨26, _⟩ => ⟨S1000x640, .f32⟩
  | .local _ .vmem, ⟨27, _⟩ => ⟨S1000x640, .f32⟩
  | .local _ .vmem, ⟨28, _⟩ => ⟨S640x64, .f32⟩
  | .local _ .vmem, ⟨29, _⟩ => ⟨S64x1, .f32⟩
  | .local _ .vmem, ⟨30, _⟩ => ⟨S64x1, .f32⟩
  | .local _ .vmem, ⟨31, _⟩ => ⟨S8x640, .f32⟩
  | .local _ .vmem, ⟨32, _⟩ => ⟨S1000x64, .f32⟩
  | .local _ .vmem, ⟨33, _⟩ => ⟨S1000x64, .f32⟩
  | .local _ .vmem, ⟨34, _⟩ => ⟨S1000x1, .f32⟩
  | .local _ .vmem, ⟨35, _⟩ => ⟨S1000x1, .f32⟩
  | .local _ .vmem, ⟨36, _⟩ => ⟨S1000x1, .f32⟩
  | .local _ .vmem, ⟨37, _⟩ => ⟨S1000x1, .f32⟩
  | .local _ .vmem, ⟨38, _⟩ => ⟨S10000x1, .f32⟩
  | .local _ .vmem, ⟨39, _⟩ => ⟨S10000x1, .f32⟩
  | .local _ .vmem, ⟨40, _⟩ => ⟨S10000x1, .f32⟩
  | .local _ .vmem, ⟨41, _⟩ => ⟨S10000x1, .f32⟩
  | .local _ .vmem, ⟨42, _⟩ => ⟨S10000x1, .f32⟩
  | .local _ .vmem, ⟨43, _⟩ => ⟨S10000x1, .f32⟩
  | .local _ .vmem, ⟨44, _⟩ => ⟨S10000x64, .f32⟩
  | .local _ .vmem, ⟨45, _⟩ => ⟨S10000x64, .f32⟩
  | .local _ .vmem, ⟨46, _⟩ => ⟨S10000x1, .f32⟩
  | .local _ .vmem, ⟨47, _⟩ => ⟨S10000x1, .f32⟩
  | .local _ .vmem, ⟨48, _⟩ => ⟨S10000x1, .f32⟩
  | .local _ .vmem, ⟨49, _⟩ => ⟨S10000x1, .f32⟩
  | .local _ .vmem, ⟨50, _⟩ => ⟨S10000x64, .f32⟩
  | .local _ .vmem, ⟨51, _⟩ => ⟨S10000x64, .f32⟩
  | .local _ .vmem, ⟨52, _⟩ => ⟨S1000x64, .f32⟩
  | .local _ .vmem, ⟨53, _⟩ => ⟨S1000x64, .f32⟩
  | .local _ .vmem, ⟨54, _⟩ => ⟨S8x64, .f32⟩
  | .local _ .vmem, ⟨55, _⟩ => ⟨S1000x64, .f32⟩
  | .local _ .vmem, ⟨56, _⟩ => ⟨S1000x64, .f32⟩
  | .local _ .vmem, ⟨57, _⟩ => ⟨S10000x64, .f32⟩
  | .local _ .vmem, ⟨58, _⟩ => ⟨S10000x1, .i32⟩
  | .local _ .vmem, ⟨59, _⟩ => ⟨S64x64, .f32⟩
  | .local _ .vmem, ⟨60, _⟩ => ⟨S8x64, .f32⟩
  | .local _ .vmem, ⟨61, _⟩ => ⟨S8x64, .f32⟩
  | .local _ .vmem, ⟨62, _⟩ => ⟨S8x64, .f32⟩
  | _, _ => ⟨S10000x78, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36_0 : Ref sig .tc := ⟨.hbm, 52, rfl⟩
abbrev main_v36_1 : Ref sig .tc := ⟨.hbm, 53, rfl⟩
abbrev main_v36_2 : Ref sig .tc := ⟨.hbm, 54, rfl⟩
abbrev main_call0_c : Ref sig .tc := ⟨.hbm, 55, rfl⟩
abbrev main_call0_v0 : Ref sig .tc := ⟨.hbm, 56, rfl⟩
abbrev main_call0_v1 : Ref sig .tc := ⟨.hbm, 57, rfl⟩
abbrev main_call0_c_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_c_1 : Ref sig .tc := ⟨.hbm, 63, rfl⟩
abbrev main_call0_c_2 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_3 : Ref sig .tc := ⟨.hbm, 71, rfl⟩
abbrev main_call0_v12 : Ref sig .tc := ⟨.hbm, 72, rfl⟩
abbrev main_call0_v13 : Ref sig .tc := ⟨.hbm, 73, rfl⟩
abbrev main_call0_v14 : Ref sig .tc := ⟨.hbm, 74, rfl⟩
abbrev main_call0_cst : Ref sig .tc := ⟨.hbm, 75, rfl⟩
abbrev main_call0_v15 : Ref sig .tc := ⟨.hbm, 76, rfl⟩
abbrev main_v37 : Ref sig .tc := ⟨.hbm, 77, rfl⟩
abbrev main_call1_c : Ref sig .tc := ⟨.hbm, 78, rfl⟩
abbrev main_call1_v0 : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_c_1 : Ref sig .tc := ⟨.hbm, 86, rfl⟩
abbrev main_call1_c_2 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_3 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_call1_cst : Ref sig .tc := ⟨.hbm, 98, rfl⟩
abbrev main_call1_v15 : Ref sig .tc := ⟨.hbm, 99, rfl⟩
abbrev main_v38 : Ref sig .tc := ⟨.hbm, 100, rfl⟩
abbrev main_v39 : Ref sig .tc := ⟨.hbm, 101, rfl⟩
abbrev main_cst_1 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_call2_c : Ref sig .tc := ⟨.hbm, 106, rfl⟩
abbrev main_call2_v0 : Ref sig .tc := ⟨.hbm, 107, rfl⟩
abbrev main_call2_v1 : Ref sig .tc := ⟨.hbm, 108, rfl⟩
abbrev main_call2_c_0 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_c_1 : Ref sig .tc := ⟨.hbm, 114, rfl⟩
abbrev main_call2_c_2 : Ref sig .tc := ⟨.hbm, 115, rfl⟩
abbrev main_call2_v6 : Ref sig .tc := ⟨.hbm, 116, rfl⟩
abbrev main_call2_v7 : Ref sig .tc := ⟨.hbm, 117, rfl⟩
abbrev main_call2_v8 : Ref sig .tc := ⟨.hbm, 118, rfl⟩
abbrev main_call2_v9 : Ref sig .tc := ⟨.hbm, 119, rfl⟩
abbrev main_call2_v10 : Ref sig .tc := ⟨.hbm, 120, rfl⟩
abbrev main_call2_v11 : Ref sig .tc := ⟨.hbm, 121, rfl⟩
abbrev main_call2_c_3 : Ref sig .tc := ⟨.hbm, 122, rfl⟩
abbrev main_call2_v12 : Ref sig .tc := ⟨.hbm, 123, rfl⟩
abbrev main_call2_v13 : Ref sig .tc := ⟨.hbm, 124, rfl⟩
abbrev main_call2_v14 : Ref sig .tc := ⟨.hbm, 125, rfl⟩
abbrev main_call2_cst : Ref sig .tc := ⟨.hbm, 126, rfl⟩
abbrev main_call2_v15 : Ref sig .tc := ⟨.hbm, 127, rfl⟩
abbrev main_v43 : Ref sig .tc := ⟨.hbm, 128, rfl⟩
abbrev main_call3_c : Ref sig .tc := ⟨.hbm, 129, rfl⟩
abbrev main_call3_v0 : Ref sig .tc := ⟨.hbm, 130, rfl⟩
abbrev main_call3_v1 : Ref sig .tc := ⟨.hbm, 131, rfl⟩
abbrev main_call3_c_0 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_c_1 : Ref sig .tc := ⟨.hbm, 137, rfl⟩
abbrev main_call3_c_2 : Ref sig .tc := ⟨.hbm, 138, rfl⟩
abbrev main_call3_v6 : Ref sig .tc := ⟨.hbm, 139, rfl⟩
abbrev main_call3_v7 : Ref sig .tc := ⟨.hbm, 140, rfl⟩
abbrev main_call3_v8 : Ref sig .tc := ⟨.hbm, 141, rfl⟩
abbrev main_call3_v9 : Ref sig .tc := ⟨.hbm, 142, rfl⟩
abbrev main_call3_v10 : Ref sig .tc := ⟨.hbm, 143, rfl⟩
abbrev main_call3_v11 : Ref sig .tc := ⟨.hbm, 144, rfl⟩
abbrev main_call3_c_3 : Ref sig .tc := ⟨.hbm, 145, rfl⟩
abbrev main_call3_v12 : Ref sig .tc := ⟨.hbm, 146, rfl⟩
abbrev main_call3_v13 : Ref sig .tc := ⟨.hbm, 147, rfl⟩
abbrev main_call3_v14 : Ref sig .tc := ⟨.hbm, 148, rfl⟩
abbrev main_call3_cst : Ref sig .tc := ⟨.hbm, 149, rfl⟩
abbrev main_call3_v15 : Ref sig .tc := ⟨.hbm, 150, rfl⟩
abbrev main_v44 : Ref sig .tc := ⟨.hbm, 151, rfl⟩
abbrev main_v45 : Ref sig .tc := ⟨.hbm, 152, rfl⟩
abbrev main_cst_2 : Ref sig .tc := ⟨.hbm, 153, rfl⟩
abbrev main_v46 : Ref sig .tc := ⟨.hbm, 154, rfl⟩
abbrev main_v47 : Ref sig .tc := ⟨.hbm, 155, rfl⟩
abbrev main_v48 : Ref sig .tc := ⟨.hbm, 156, rfl⟩
abbrev main_v49 : Ref sig .tc := ⟨.hbm, 157, rfl⟩
abbrev main_v50 : Ref sig .tc := ⟨.hbm, 158, rfl⟩
abbrev main_c_3 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_v56 : Ref sig .tc := ⟨.hbm, 165, rfl⟩
abbrev main_v57 : Ref sig .tc := ⟨.hbm, 166, rfl⟩
abbrev main_v58 : Ref sig .tc := ⟨.hbm, 167, rfl⟩
abbrev main_v59 : Ref sig .tc := ⟨.hbm, 168, rfl⟩
abbrev main_v60 : Ref sig .tc := ⟨.hbm, 169, rfl⟩
abbrev main_v61 : Ref sig .tc := ⟨.hbm, 170, rfl⟩
abbrev main_v62 : Ref sig .tc := ⟨.hbm, 171, rfl⟩
abbrev main_c_4 : Ref sig .tc := ⟨.hbm, 172, rfl⟩
abbrev main_v63 : Ref sig .tc := ⟨.hbm, 173, rfl⟩
abbrev main_v64 : Ref sig .tc := ⟨.hbm, 174, rfl⟩
abbrev main_v65 : Ref sig .tc := ⟨.hbm, 175, rfl⟩
abbrev main_v66 : Ref sig .tc := ⟨.hbm, 176, rfl⟩
abbrev main_v67 : Ref sig .tc := ⟨.hbm, 177, rfl⟩
abbrev main_v68 : Ref sig .tc := ⟨.hbm, 178, rfl⟩
abbrev main_v69 : Ref sig .tc := ⟨.hbm, 179, rfl⟩
abbrev main_v70 : Ref sig .tc := ⟨.hbm, 180, rfl⟩
abbrev main_v71 : Ref sig .tc := ⟨.hbm, 181, rfl⟩
abbrev main_v72 : Ref sig .tc := ⟨.hbm, 182, rfl⟩
abbrev main_v73 : Ref sig .tc := ⟨.hbm, 183, rfl⟩
abbrev main_v74 : Ref sig .tc := ⟨.hbm, 184, rfl⟩
abbrev main_v75_0 : Ref sig .tc := ⟨.hbm, 185, rfl⟩
abbrev main_v75_1 : Ref sig .tc := ⟨.hbm, 186, rfl⟩
abbrev main_v75_2 : Ref sig .tc := ⟨.hbm, 187, rfl⟩
abbrev main_call4_c : Ref sig .tc := ⟨.hbm, 188, rfl⟩
abbrev main_call4_v0 : Ref sig .tc := ⟨.hbm, 189, rfl⟩
abbrev main_call4_v1 : Ref sig .tc := ⟨.hbm, 190, rfl⟩
abbrev main_call4_c_0 : Ref sig .tc := ⟨.hbm, 191, rfl⟩
abbrev main_call4_v2 : Ref sig .tc := ⟨.hbm, 192, rfl⟩
abbrev main_call4_v3 : Ref sig .tc := ⟨.hbm, 193, rfl⟩
abbrev main_call4_v4 : Ref sig .tc := ⟨.hbm, 194, rfl⟩
abbrev main_call4_v5 : Ref sig .tc := ⟨.hbm, 195, rfl⟩
abbrev main_call4_c_1 : Ref sig .tc := ⟨.hbm, 196, rfl⟩
abbrev main_call4_c_2 : Ref sig .tc := ⟨.hbm, 197, rfl⟩
abbrev main_call4_v6 : Ref sig .tc := ⟨.hbm, 198, rfl⟩
abbrev main_call4_v7 : Ref sig .tc := ⟨.hbm, 199, rfl⟩
abbrev main_call4_v8 : Ref sig .tc := ⟨.hbm, 200, rfl⟩
abbrev main_call4_v9 : Ref sig .tc := ⟨.hbm, 201, rfl⟩
abbrev main_call4_v10 : Ref sig .tc := ⟨.hbm, 202, rfl⟩
abbrev main_call4_v11 : Ref sig .tc := ⟨.hbm, 203, rfl⟩
abbrev main_call4_c_3 : Ref sig .tc := ⟨.hbm, 204, rfl⟩
abbrev main_call4_v12 : Ref sig .tc := ⟨.hbm, 205, rfl⟩
abbrev main_call4_v13 : Ref sig .tc := ⟨.hbm, 206, rfl⟩
abbrev main_call4_v14 : Ref sig .tc := ⟨.hbm, 207, rfl⟩
abbrev main_call4_cst : Ref sig .tc := ⟨.hbm, 208, rfl⟩
abbrev main_call4_v15 : Ref sig .tc := ⟨.hbm, 209, rfl⟩
abbrev main_v76 : Ref sig .tc := ⟨.hbm, 210, rfl⟩
abbrev main_call5_c : Ref sig .tc := ⟨.hbm, 211, rfl⟩
abbrev main_call5_v0 : Ref sig .tc := ⟨.hbm, 212, rfl⟩
abbrev main_call5_v1 : Ref sig .tc := ⟨.hbm, 213, rfl⟩
abbrev main_call5_c_0 : Ref sig .tc := ⟨.hbm, 214, rfl⟩
abbrev main_call5_v2 : Ref sig .tc := ⟨.hbm, 215, rfl⟩
abbrev main_call5_v3 : Ref sig .tc := ⟨.hbm, 216, rfl⟩
abbrev main_call5_v4 : Ref sig .tc := ⟨.hbm, 217, rfl⟩
abbrev main_call5_v5 : Ref sig .tc := ⟨.hbm, 218, rfl⟩
abbrev main_call5_c_1 : Ref sig .tc := ⟨.hbm, 219, rfl⟩
abbrev main_call5_c_2 : Ref sig .tc := ⟨.hbm, 220, rfl⟩
abbrev main_call5_v6 : Ref sig .tc := ⟨.hbm, 221, rfl⟩
abbrev main_call5_v7 : Ref sig .tc := ⟨.hbm, 222, rfl⟩
abbrev main_call5_v8 : Ref sig .tc := ⟨.hbm, 223, rfl⟩
abbrev main_call5_v9 : Ref sig .tc := ⟨.hbm, 224, rfl⟩
abbrev main_call5_v10 : Ref sig .tc := ⟨.hbm, 225, rfl⟩
abbrev main_call5_v11 : Ref sig .tc := ⟨.hbm, 226, rfl⟩
abbrev main_call5_c_3 : Ref sig .tc := ⟨.hbm, 227, rfl⟩
abbrev main_call5_v12 : Ref sig .tc := ⟨.hbm, 228, rfl⟩
abbrev main_call5_v13 : Ref sig .tc := ⟨.hbm, 229, rfl⟩
abbrev main_call5_v14 : Ref sig .tc := ⟨.hbm, 230, rfl⟩
abbrev main_call5_cst : Ref sig .tc := ⟨.hbm, 231, rfl⟩
abbrev main_call5_v15 : Ref sig .tc := ⟨.hbm, 232, rfl⟩
abbrev main_v77 : Ref sig .tc := ⟨.hbm, 233, rfl⟩
abbrev main_v78 : Ref sig .tc := ⟨.hbm, 234, rfl⟩
abbrev main_cst_5 : Ref sig .tc := ⟨.hbm, 235, rfl⟩
abbrev main_v79 : Ref sig .tc := ⟨.hbm, 236, rfl⟩
abbrev main_v80 : Ref sig .tc := ⟨.hbm, 237, rfl⟩
abbrev main_v81 : Ref sig .tc := ⟨.hbm, 238, rfl⟩
abbrev main_call6_c : Ref sig .tc := ⟨.hbm, 239, rfl⟩
abbrev main_call6_v0 : Ref sig .tc := ⟨.hbm, 240, rfl⟩
abbrev main_call6_v1 : Ref sig .tc := ⟨.hbm, 241, rfl⟩
abbrev main_call6_c_0 : Ref sig .tc := ⟨.hbm, 242, rfl⟩
abbrev main_call6_v2 : Ref sig .tc := ⟨.hbm, 243, rfl⟩
abbrev main_call6_v3 : Ref sig .tc := ⟨.hbm, 244, rfl⟩
abbrev main_call6_v4 : Ref sig .tc := ⟨.hbm, 245, rfl⟩
abbrev main_call6_v5 : Ref sig .tc := ⟨.hbm, 246, rfl⟩
abbrev main_call6_c_1 : Ref sig .tc := ⟨.hbm, 247, rfl⟩
abbrev main_call6_c_2 : Ref sig .tc := ⟨.hbm, 248, rfl⟩
abbrev main_call6_v6 : Ref sig .tc := ⟨.hbm, 249, rfl⟩
abbrev main_call6_v7 : Ref sig .tc := ⟨.hbm, 250, rfl⟩
abbrev main_call6_v8 : Ref sig .tc := ⟨.hbm, 251, rfl⟩
abbrev main_call6_v9 : Ref sig .tc := ⟨.hbm, 252, rfl⟩
abbrev main_call6_v10 : Ref sig .tc := ⟨.hbm, 253, rfl⟩
abbrev main_call6_v11 : Ref sig .tc := ⟨.hbm, 254, rfl⟩
abbrev main_call6_c_3 : Ref sig .tc := ⟨.hbm, 255, rfl⟩
abbrev main_call6_v12 : Ref sig .tc := ⟨.hbm, 256, rfl⟩
abbrev main_call6_v13 : Ref sig .tc := ⟨.hbm, 257, rfl⟩
abbrev main_call6_v14 : Ref sig .tc := ⟨.hbm, 258, rfl⟩
abbrev main_call6_cst : Ref sig .tc := ⟨.hbm, 259, rfl⟩
abbrev main_call6_v15 : Ref sig .tc := ⟨.hbm, 260, rfl⟩
abbrev main_v82 : Ref sig .tc := ⟨.hbm, 261, rfl⟩
abbrev main_call7_c : Ref sig .tc := ⟨.hbm, 262, rfl⟩
abbrev main_call7_v0 : Ref sig .tc := ⟨.hbm, 263, rfl⟩
abbrev main_call7_v1 : Ref sig .tc := ⟨.hbm, 264, rfl⟩
abbrev main_call7_c_0 : Ref sig .tc := ⟨.hbm, 265, rfl⟩
abbrev main_call7_v2 : Ref sig .tc := ⟨.hbm, 266, rfl⟩
abbrev main_call7_v3 : Ref sig .tc := ⟨.hbm, 267, rfl⟩
abbrev main_call7_v4 : Ref sig .tc := ⟨.hbm, 268, rfl⟩
abbrev main_call7_v5 : Ref sig .tc := ⟨.hbm, 269, rfl⟩
abbrev main_call7_c_1 : Ref sig .tc := ⟨.hbm, 270, rfl⟩
abbrev main_call7_c_2 : Ref sig .tc := ⟨.hbm, 271, rfl⟩
abbrev main_call7_v6 : Ref sig .tc := ⟨.hbm, 272, rfl⟩
abbrev main_call7_v7 : Ref sig .tc := ⟨.hbm, 273, rfl⟩
abbrev main_call7_v8 : Ref sig .tc := ⟨.hbm, 274, rfl⟩
abbrev main_call7_v9 : Ref sig .tc := ⟨.hbm, 275, rfl⟩
abbrev main_call7_v10 : Ref sig .tc := ⟨.hbm, 276, rfl⟩
abbrev main_call7_v11 : Ref sig .tc := ⟨.hbm, 277, rfl⟩
abbrev main_call7_c_3 : Ref sig .tc := ⟨.hbm, 278, rfl⟩
abbrev main_call7_v12 : Ref sig .tc := ⟨.hbm, 279, rfl⟩
abbrev main_call7_v13 : Ref sig .tc := ⟨.hbm, 280, rfl⟩
abbrev main_call7_v14 : Ref sig .tc := ⟨.hbm, 281, rfl⟩
abbrev main_call7_cst : Ref sig .tc := ⟨.hbm, 282, rfl⟩
abbrev main_call7_v15 : Ref sig .tc := ⟨.hbm, 283, rfl⟩
abbrev main_v83 : Ref sig .tc := ⟨.hbm, 284, rfl⟩
abbrev main_v84 : Ref sig .tc := ⟨.hbm, 285, rfl⟩
abbrev main_cst_6 : Ref sig .tc := ⟨.hbm, 286, rfl⟩
abbrev main_v85 : Ref sig .tc := ⟨.hbm, 287, rfl⟩
abbrev main_v86 : Ref sig .tc := ⟨.hbm, 288, rfl⟩
abbrev main_v87 : Ref sig .tc := ⟨.hbm, 289, rfl⟩
abbrev main_v88 : Ref sig .tc := ⟨.hbm, 290, rfl⟩
abbrev main_v89 : Ref sig .tc := ⟨.hbm, 291, rfl⟩
abbrev main_v90 : Ref sig .tc := ⟨.hbm, 292, rfl⟩
abbrev main_v91 : Ref sig .tc := ⟨.hbm, 293, rfl⟩
abbrev main_v92 : Ref sig .tc := ⟨.hbm, 294, rfl⟩
abbrev main_v93 : Ref sig .tc := ⟨.hbm, 295, rfl⟩
abbrev main_v94 : Ref sig .tc := ⟨.hbm, 296, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg6_1 : Ref sig .tc := ⟨.vmem, 35, rfl⟩
abbrev cc3_stg7_0 : Ref sig .tc := ⟨.vmem, 36, rfl⟩
abbrev cc3_stg7_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg3_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg2_1 : Ref sig .tc := ⟨.vmem, 56, rfl⟩
abbrev cc7_stg0_0 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg4_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc3_sem6_0 : DmaSem sig := 34
abbrev cc3_sem6_1 : DmaSem sig := 35
abbrev cc3_sem7_0 : DmaSem sig := 36
abbrev cc3_sem7_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc5_sem3_0 : DmaSem sig := 50
abbrev cc5_sem3_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem2_1 : DmaSem sig := 56
abbrev cc7_sem0_0 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem4_1 : DmaSem sig := 62

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x78 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S78x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x78 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![17], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x10 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![85], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x640 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x10 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x640 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x640 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S640x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x640 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![17], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![17], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![32], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S10000x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S10000x1 .i32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S8x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S8x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]
-- ==== ReferenceIdeal.lean ====
abbrev S10000x78 : Shape := ⟨2, ![10000, 78]⟩
abbrev S2x160000 : Shape := ⟨2, ![2, 160000]⟩
abbrev S10000 : Shape := ⟨1, ![10000]⟩
abbrev S78x640 : Shape := ⟨2, ![78, 640]⟩
abbrev S1x10x64 : Shape := ⟨3, ![1, 10, 64]⟩
abbrev S640 : Shape := ⟨1, ![640]⟩
abbrev S640x64 : Shape := ⟨2, ![640, 64]⟩
abbrev S1x1x64 : Shape := ⟨3, ![1, 1, 64]⟩
abbrev S64 : Shape := ⟨1, ![64]⟩
abbrev S64x64 : Shape := ⟨2, ![64, 64]⟩
abbrev S1x10000 : Shape := ⟨2, ![1, 10000]⟩
abbrev S2x10000 : Shape := ⟨2, ![2, 10000]⟩
abbrev S2x170000 : Shape := ⟨2, ![2, 170000]⟩
abbrev S1x170000 : Shape := ⟨2, ![1, 170000]⟩
abbrev S170000 : Shape := ⟨1, ![170000]⟩
abbrev S10000x640 : Shape := ⟨2, ![10000, 640]⟩
abbrev S10000x10x64 : Shape := ⟨3, ![10000, 10, 64]⟩
abbrev S_ : Shape := ⟨0, ![]⟩
abbrev S10000x10 : Shape := ⟨2, ![10000, 10]⟩
abbrev S170000x1 : Shape := ⟨2, ![170000, 1]⟩
abbrev S170000x10 : Shape := ⟨2, ![170000, 10]⟩
abbrev S170000x10x64 : Shape := ⟨3, ![170000, 10, 64]⟩
abbrev S170000x10x1 : Shape := ⟨3, ![170000, 10, 1]⟩
abbrev S1x640 : Shape := ⟨2, ![1, 640]⟩
abbrev S10000x64 : Shape := ⟨2, ![10000, 64]⟩
abbrev S10000x1x64 : Shape := ⟨3, ![10000, 1, 64]⟩
abbrev S10000x1 : Shape := ⟨2, ![10000, 1]⟩
abbrev S170000x1x64 : Shape := ⟨3, ![170000, 1, 64]⟩
abbrev S170000x1x1 : Shape := ⟨3, ![170000, 1, 1]⟩
abbrev S1x64 : Shape := ⟨2, ![1, 64]⟩
abbrev S256 : Shape := ⟨1, ![256]⟩
abbrev S1x256 : Shape := ⟨2, ![1, 256]⟩
abbrev S10000x256 : Shape := ⟨2, ![10000, 256]⟩
abbrev S10000x256x1 : Shape := ⟨3, ![10000, 256, 1]⟩
abbrev S10000x256x64 : Shape := ⟨3, ![10000, 256, 64]⟩
abbrev S256x64 : Shape := ⟨2, ![256, 64]⟩

abbrev nBuf : Space → Nat
  | .hbm => 234
  | .vmem => 0
  | .smem => 0
  | _ => 0

abbrev hbmTy0_0 (i : Nat) : BufTy := match i % 128 with
  | 0 => ⟨S10000x78, .f32⟩
  | 1 => ⟨S2x160000, .i32⟩
  | 2 => ⟨S10000, .i32⟩
  | 3 => ⟨S78x640, .f32⟩
  | 4 => ⟨S1x10x64, .f32⟩
  | 5 => ⟨S1x10x64, .f32⟩
  | 6 => ⟨S640, .f32⟩
  | 7 => ⟨S640x64, .f32⟩
  | 8 => ⟨S1x1x64, .f32⟩
  | 9 => ⟨S1x1x64, .f32⟩
  | 10 => ⟨S64, .f32⟩
  | 11 => ⟨S64x64, .f32⟩
  | 12 => ⟨S64, .f32⟩
  | 13 => ⟨S10000, .i32⟩
  | 14 => ⟨S1x10000, .i32⟩
  | 15 => ⟨S1x10000, .i32⟩
  | 16 => ⟨S2x10000, .i32⟩
  | 17 => ⟨S2x170000, .i32⟩
  | 18 => ⟨S1x170000, .i32⟩
  | 19 => ⟨S170000, .i32⟩
  | 20 => ⟨S1x170000, .i32⟩
  | 21 => ⟨S170000, .i32⟩
  | 22 => ⟨S10000x640, .f32⟩
  | 23 => ⟨S10000x10x64, .f32⟩
  | 24 => ⟨S10000x10x64, .f32⟩
  | 25 => ⟨S10000x10x64, .f32⟩
  | 26 => ⟨S_, .f32⟩
  | 27 => ⟨S10000x10, .f32⟩
  | 28 => ⟨S10000x10x64, .f32⟩
  | 29 => ⟨S10000x10x64, .f32⟩
  | 30 => ⟨S_, .f32⟩
  | 31 => ⟨S10000x10, .f32⟩
  | 32 => ⟨S_, .i32⟩
  | 33 => ⟨S170000, .i32⟩
  | 34 => ⟨S170000, .i1⟩
  | 35 => ⟨S_, .i32⟩
  | 36 => ⟨S170000, .i32⟩
  | 37 => ⟨S170000, .i32⟩
  | 38 => ⟨S170000, .i32⟩
  | 39 => ⟨S170000x1, .i32⟩
  | 40 => ⟨S170000x10, .f32⟩
  | 41 => ⟨S_, .i32⟩
  | 42 => ⟨S170000, .i32⟩
  | 43 => ⟨S170000, .i1⟩
  | 44 => ⟨S_, .i32⟩
  | 45 => ⟨S170000, .i32⟩
  | 46 => ⟨S170000, .i32⟩
  | 47 => ⟨S170000, .i32⟩
  | 48 => ⟨S170000x1, .i32⟩
  | 49 => ⟨S170000x10, .f32⟩
  | 50 => ⟨S170000x10, .f32⟩
  | 51 => ⟨S_, .f32⟩
  | 52 => ⟨S_, .f32⟩
  | 53 => ⟨S170000x10, .f32⟩
  | 54 => ⟨S170000x10, .i1⟩
  | 55 => ⟨S_, .f32⟩
  | 56 => ⟨S170000x10, .f32⟩
  | 57 => ⟨S170000x10, .f32⟩
  | 58 => ⟨S170000x10, .f32⟩
  | 59 => ⟨S170000x10, .f32⟩
  | 60 => ⟨S_, .f32⟩
  | 61 => ⟨S10000x10, .f32⟩
  | 62 => ⟨S170000x1, .i32⟩
  | 63 => ⟨S10000x10, .f32⟩
  | 64 => ⟨S_, .i32⟩
  | 65 => ⟨S170000, .i32⟩
  | 66 => ⟨S170000, .i1⟩
  | 67 => ⟨S_, .i32⟩
  | 68 => ⟨S170000, .i32⟩
  | 69 => ⟨S170000, .i32⟩
  | 70 => ⟨S170000, .i32⟩
  | 71 => ⟨S170000x1, .i32⟩
  | 72 => ⟨S170000x10, .f32⟩
  | 73 => ⟨S_, .f32⟩
  | 74 => ⟨S170000x10, .f32⟩
  | 75 => ⟨S170000x10, .f32⟩
  | 76 => ⟨S170000x10, .f32⟩
  | 77 => ⟨S_, .i32⟩
  | 78 => ⟨S170000, .i32⟩
  | 79 => ⟨S170000, .i1⟩
  | 80 => ⟨S_, .i32⟩
  | 81 => ⟨S170000, .i32⟩
  | 82 => ⟨S170000, .i32⟩
  | 83 => ⟨S170000, .i32⟩
  | 84 => ⟨S170000x1, .i32⟩
  | 85 => ⟨S170000x10x64, .f32⟩
  | 86 => ⟨S170000x10x1, .f32⟩
  | 87 => ⟨S170000x10x64, .f32⟩
  | 88 => ⟨S170000x10x64, .f32⟩
  | 89 => ⟨S_, .f32⟩
  | 90 => ⟨S10000x10x64, .f32⟩
  | 91 => ⟨S170000x1, .i32⟩
  | 92 => ⟨S10000x10x64, .f32⟩
  | 93 => ⟨S10000x640, .f32⟩
  | 94 => ⟨S1x640, .f32⟩
  | 95 => ⟨S10000x640, .f32⟩
  | 96 => ⟨S10000x640, .f32⟩
  | 97 => ⟨S_, .f32⟩
  | 98 => ⟨S10000x640, .f32⟩
  | 99 => ⟨S10000x640, .i1⟩
  | 100 => ⟨S_, .f32⟩
  | 101 => ⟨S10000x640, .f32⟩
  | 102 => ⟨S10000x640, .i1⟩
  | 103 => ⟨S_, .f32⟩
  | 104 => ⟨S_, .f32⟩
  | 105 => ⟨S10000x640, .f32⟩
  | 106 => ⟨S10000x640, .f32⟩
  | 107 => ⟨S10000x640, .f32⟩
  | 108 => ⟨S_, .f32⟩
  | 109 => ⟨S10000x640, .f32⟩
  | 110 => ⟨S10000x640, .f32⟩
  | 111 => ⟨S10000x640, .f32⟩
  | 112 => ⟨S10000, .i32⟩
  | 113 => ⟨S1x10000, .i32⟩
  | 114 => ⟨S1x10000, .i32⟩
  | 115 => ⟨S2x10000, .i32⟩
  | 116 => ⟨S2x170000, .i32⟩
  | 117 => ⟨S1x170000, .i32⟩
  | 118 => ⟨S170000, .i32⟩
  | 119 => ⟨S1x170000, .i32⟩
  | 120 => ⟨S170000, .i32⟩
  | 121 => ⟨S10000x64, .f32⟩
  | 122 => ⟨S10000x1x64, .f32⟩
  | 123 => ⟨S10000x1x64, .f32⟩
  | 124 => ⟨S10000x1x64, .f32⟩
  | 125 => ⟨S_, .f32⟩
  | 126 => ⟨S10000x1, .f32⟩
  | 127 => ⟨S10000x1x64, .f32⟩
  | _ => ⟨S10000x78, .f32⟩

abbrev hbmTy0_1 (i : Nat) : BufTy := match i % 128 with
  | 0 => ⟨S10000x1x64, .f32⟩
  | 1 => ⟨S_, .f32⟩
  | 2 => ⟨S10000x1, .f32⟩
  | 3 => ⟨S_, .i32⟩
  | 4 => ⟨S170000, .i32⟩
  | 5 => ⟨S170000, .i1⟩
  | 6 => ⟨S_, .i32⟩
  | 7 => ⟨S170000, .i32⟩
  | 8 => ⟨S170000, .i32⟩
  | 9 => ⟨S170000, .i32⟩
  | 10 => ⟨S170000x1, .i32⟩
  | 11 => ⟨S170000x1, .f32⟩
  | 12 => ⟨S_, .i32⟩
  | 13 => ⟨S170000, .i32⟩
  | 14 => ⟨S170000, .i1⟩
  | 15 => ⟨S_, .i32⟩
  | 16 => ⟨S170000, .i32⟩
  | 17 => ⟨S170000, .i32⟩
  | 18 => ⟨S170000, .i32⟩
  | 19 => ⟨S170000x1, .i32⟩
  | 20 => ⟨S170000x1, .f32⟩
  | 21 => ⟨S170000x1, .f32⟩
  | 22 => ⟨S_, .f32⟩
  | 23 => ⟨S_, .f32⟩
  | 24 => ⟨S170000x1, .f32⟩
  | 25 => ⟨S170000x1, .i1⟩
  | 26 => ⟨S_, .f32⟩
  | 27 => ⟨S170000x1, .f32⟩
  | 28 => ⟨S170000x1, .f32⟩
  | 29 => ⟨S170000x1, .f32⟩
  | 30 => ⟨S170000x1, .f32⟩
  | 31 => ⟨S_, .f32⟩
  | 32 => ⟨S10000x1, .f32⟩
  | 33 => ⟨S170000x1, .i32⟩
  | 34 => ⟨S10000x1, .f32⟩
  | 35 => ⟨S_, .i32⟩
  | 36 => ⟨S170000, .i32⟩
  | 37 => ⟨S170000, .i1⟩
  | 38 => ⟨S_, .i32⟩
  | 39 => ⟨S170000, .i32⟩
  | 40 => ⟨S170000, .i32⟩
  | 41 => ⟨S170000, .i32⟩
  | 42 => ⟨S170000x1, .i32⟩
  | 43 => ⟨S170000x1, .f32⟩
  | 44 => ⟨S_, .f32⟩
  | 45 => ⟨S170000x1, .f32⟩
  | 46 => ⟨S170000x1, .f32⟩
  | 47 => ⟨S170000x1, .f32⟩
  | 48 => ⟨S_, .i32⟩
  | 49 => ⟨S170000, .i32⟩
  | 50 => ⟨S170000, .i1⟩
  | 51 => ⟨S_, .i32⟩
  | 52 => ⟨S170000, .i32⟩
  | 53 => ⟨S170000, .i32⟩
  | 54 => ⟨S170000, .i32⟩
  | 55 => ⟨S170000x1, .i32⟩
  | 56 => ⟨S170000x1x64, .f32⟩
  | 57 => ⟨S170000x1x1, .f32⟩
  | 58 => ⟨S170000x1x64, .f32⟩
  | 59 => ⟨S170000x1x64, .f32⟩
  | 60 => ⟨S_, .f32⟩
  | 61 => ⟨S10000x1x64, .f32⟩
  | 62 => ⟨S170000x1, .i32⟩
  | 63 => ⟨S10000x1x64, .f32⟩
  | 64 => ⟨S10000x64, .f32⟩
  | 65 => ⟨S1x64, .f32⟩
  | 66 => ⟨S10000x64, .f32⟩
  | 67 => ⟨S10000x64, .f32⟩
  | 68 => ⟨S_, .f32⟩
  | 69 => ⟨S10000x64, .f32⟩
  | 70 => ⟨S10000x64, .i1⟩
  | 71 => ⟨S_, .f32⟩
  | 72 => ⟨S10000x64, .f32⟩
  | 73 => ⟨S10000x64, .i1⟩
  | 74 => ⟨S_, .f32⟩
  | 75 => ⟨S_, .f32⟩
  | 76 => ⟨S10000x64, .f32⟩
  | 77 => ⟨S10000x64, .f32⟩
  | 78 => ⟨S10000x64, .f32⟩
  | 79 => ⟨S_, .f32⟩
  | 80 => ⟨S10000x64, .f32⟩
  | 81 => ⟨S10000x64, .f32⟩
  | 82 => ⟨S10000x64, .f32⟩
  | 83 => ⟨S10000x1, .i32⟩
  | 84 => ⟨S256, .i32⟩
  | 85 => ⟨S1x256, .i32⟩
  | 86 => ⟨S10000x256, .i32⟩
  | 87 => ⟨S10000x256, .i32⟩
  | 88 => ⟨S10000x256, .i1⟩
  | 89 => ⟨S10000x256x1, .i1⟩
  | 90 => ⟨S10000x1x64, .f32⟩
  | 91 => ⟨S_, .f32⟩
  | 92 => ⟨S_, .f32⟩
  | 93 => ⟨S10000x256x64, .i1⟩
  | 94 => ⟨S10000x256x64, .f32⟩
  | 95 => ⟨S10000x256x64, .f32⟩
  | 96 => ⟨S10000x256x64, .f32⟩
  | 97 => ⟨S_, .f32⟩
  | 98 => ⟨S256x64, .f32⟩
  | 99 => ⟨S256x64, .f32⟩
  | 100 => ⟨S1x64, .f32⟩
  | 101 => ⟨S256x64, .f32⟩
  | 102 => ⟨S256x64, .f32⟩
  | 103 => ⟨S_, .f32⟩
  | 104 => ⟨S256x64, .f32⟩
  | 105 => ⟨S256x64, .f32⟩
  | _ => ⟨S10000x78, .f32⟩

abbrev hbmTy (i : Nat) : BufTy := match i / 128 with
  | 0 => hbmTy0_0 i
  | 1 => hbmTy0_1 i
  | _ => ⟨S10000x78, .f32⟩

abbrev bufTy : (tb : Table) → Fin (tcTables nBuf tb) → BufTy
  | .hbm, ⟨i, _⟩ => hbmTy i
  | _, _ => ⟨S10000x78, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_6 : Ref sig .tc := ⟨.hbm, 64, rfl⟩
abbrev main_v37 : Ref sig .tc := ⟨.hbm, 65, rfl⟩
abbrev main_v38 : Ref sig .tc := ⟨.hbm, 66, rfl⟩
abbrev main_c_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_9 : Ref sig .tc := ⟨.hbm, 77, rfl⟩
abbrev main_v47 : Ref sig .tc := ⟨.hbm, 78, rfl⟩
abbrev main_v48 : Ref sig .tc := ⟨.hbm, 79, rfl⟩
abbrev main_c_10 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call1_cst : Ref sig .tc := ⟨.hbm, 97, rfl⟩
abbrev main_call1_v0 : Ref sig .tc := ⟨.hbm, 98, rfl⟩
abbrev main_call1_v1 : Ref sig .tc := ⟨.hbm, 99, rfl⟩
abbrev main_call1_cst_0 : Ref sig .tc := ⟨.hbm, 100, rfl⟩
abbrev main_call1_v2 : Ref sig .tc := ⟨.hbm, 101, rfl⟩
abbrev main_call1_v3 : Ref sig .tc := ⟨.hbm, 102, rfl⟩
abbrev main_call1_cst_1 : Ref sig .tc := ⟨.hbm, 103, rfl⟩
abbrev main_call1_call0_v0 : Ref sig .tc := ⟨.hbm, 104, rfl⟩
abbrev main_call1_call0_v1 : Ref sig .tc := ⟨.hbm, 105, rfl⟩
abbrev main_call1_v4 : Ref sig .tc := ⟨.hbm, 106, rfl⟩
abbrev main_call1_v5 : Ref sig .tc := ⟨.hbm, 107, rfl⟩
abbrev main_call1_cst_2 : Ref sig .tc := ⟨.hbm, 108, rfl⟩
abbrev main_call1_v6 : Ref sig .tc := ⟨.hbm, 109, rfl⟩
abbrev main_call1_v7 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_12 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_13 : Ref sig .tc := ⟨.hbm, 129, rfl⟩
abbrev main_v81 : Ref sig .tc := ⟨.hbm, 130, rfl⟩
abbrev main_c_14 : Ref sig .tc := ⟨.hbm, 131, rfl⟩
abbrev main_v82 : Ref sig .tc := ⟨.hbm, 132, rfl⟩
abbrev main_v83 : Ref sig .tc := ⟨.hbm, 133, rfl⟩
abbrev main_c_15 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_c_16 : Ref sig .tc := ⟨.hbm, 140, rfl⟩
abbrev main_v89 : Ref sig .tc := ⟨.hbm, 141, rfl⟩
abbrev main_v90 : Ref sig .tc := ⟨.hbm, 142, rfl⟩
abbrev main_c_17 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_cst_18 : Ref sig .tc := ⟨.hbm, 150, rfl⟩
abbrev main_call2_cst : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_call2_v3 : Ref sig .tc := ⟨.hbm, 155, rfl⟩
abbrev main_call2_v4 : Ref sig .tc := ⟨.hbm, 156, rfl⟩
abbrev main_v97 : Ref sig .tc := ⟨.hbm, 157, rfl⟩
abbrev main_v98 : Ref sig .tc := ⟨.hbm, 158, rfl⟩
abbrev main_cst_19 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_c_20 : Ref sig .tc := ⟨.hbm, 163, rfl⟩
abbrev main_v102 : Ref sig .tc := ⟨.hbm, 164, rfl⟩
abbrev main_v103 : Ref sig .tc := ⟨.hbm, 165, rfl⟩
abbrev main_c_21 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_cst_22 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_c_23 : Ref sig .tc := ⟨.hbm, 176, rfl⟩
abbrev main_v112 : Ref sig .tc := ⟨.hbm, 177, rfl⟩
abbrev main_v113 : Ref sig .tc := ⟨.hbm, 178, rfl⟩
abbrev main_c_24 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_cst_25 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_call3_cst : Ref sig .tc := ⟨.hbm, 196, rfl⟩
abbrev main_call3_v0 : Ref sig .tc := ⟨.hbm, 197, rfl⟩
abbrev main_call3_v1 : Ref sig .tc := ⟨.hbm, 198, rfl⟩
abbrev main_call3_cst_0 : Ref sig .tc := ⟨.hbm, 199, rfl⟩
abbrev main_call3_v2 : Ref sig .tc := ⟨.hbm, 200, rfl⟩
abbrev main_call3_v3 : Ref sig .tc := ⟨.hbm, 201, rfl⟩
abbrev main_call3_cst_1 : Ref sig .tc := ⟨.hbm, 202, rfl⟩
abbrev main_call3_call0_v0 : Ref sig .tc := ⟨.hbm, 203, rfl⟩
abbrev main_call3_call0_v1 : Ref sig .tc := ⟨.hbm, 204, rfl⟩
abbrev main_call3_v4 : Ref sig .tc := ⟨.hbm, 205, rfl⟩
abbrev main_call3_v5 : Ref sig .tc := ⟨.hbm, 206, rfl⟩
abbrev main_call3_cst_2 : Ref sig .tc := ⟨.hbm, 207, rfl⟩
abbrev main_call3_v6 : Ref sig .tc := ⟨.hbm, 208, rfl⟩
abbrev main_call3_v7 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_cst_26 : Ref sig .tc := ⟨.hbm, 219, rfl⟩
abbrev main_call4_v0 : Ref sig .tc := ⟨.hbm, 220, rfl⟩
abbrev main_call4_v1 : Ref sig .tc := ⟨.hbm, 221, rfl⟩
abbrev main_call4_v2 : Ref sig .tc := ⟨.hbm, 222, rfl⟩
abbrev main_call4_v3 : Ref sig .tc := ⟨.hbm, 223, rfl⟩
abbrev main_v138 : Ref sig .tc := ⟨.hbm, 224, rfl⟩
abbrev main_cst_27 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_call5_cst : Ref sig .tc := ⟨.hbm, 231, rfl⟩
abbrev main_call5_v0 : Ref sig .tc := ⟨.hbm, 232, rfl⟩
abbrev main_v144 : Ref sig .tc := ⟨.hbm, 233, rfl⟩

abbrev nD : Nat := 1
abbrev τ : Topo := Topo.v7x

variable {F : FTy → Type} [FloatOps F]
-- ==== Proof.KernRun.lean ====
/- The launch of the kernel, with its result read: the contents the last of its steps leaves in the result's buffer. -/
module

public import proofs.«01_k».proof.Proof.Gen.KernelIdeal.Frame
public import Idealize.ShloMosaic.PureOps.Ideal.Laws

@[expose] public section

set_option maxRecDepth 16384

noncomputable section

namespace Cert.KernelIdeal.Gat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- Every launch of the kernel ends with its result at the last step's contents and its arguments as they were. -/
theorem run_result : θ_run defs (onTc (τ := τ) (main (F := Ideal))) ⟨m, fun _ => 0, ρ⟩ (fun r => ∀ c : Dev nD,
      r.2.mem ((c.tc : Thread nD τ).loc main_v94) = W22 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h _ c => ⟨h c _ (mem_uc main_v94 (by decide)),
      (h c _ (mem_uc main_arg0 (by decide))).trans (W22_main_arg0 m ρ c),
      (h c _ (mem_uc main_arg1 (by decide))).trans (W22_main_arg1 m ρ c),
      (h c _ (mem_uc main_arg2 (by decide))).trans (W22_main_arg2 m ρ c),
      (h c _ (mem_uc main_arg3 (by decide))).trans (W22_main_arg3 m ρ c),
      (h c _ (mem_uc main_arg4 (by decide))).trans (W22_main_arg4 m ρ c),
      (h c _ (mem_uc main_arg5 (by decide))).trans (W22_main_arg5 m ρ c),
      (h c _ (mem_uc main_arg6 (by decide))).trans (W22_main_arg6 m ρ c),
      (h c _ (mem_uc main_arg7 (by decide))).trans (W22_main_arg7 m ρ c),
      (h c _ (mem_uc main_arg8 (by decide))).trans (W22_main_arg8 m ρ c),
      (h c _ (mem_uc main_arg9 (by decide))).trans (W22_main_arg9 m ρ c),
      (h c _ (mem_uc main_arg10 (by decide))).trans (W22_main_arg10 m ρ c),
      (h c _ (mem_uc main_arg11 (by decide))).trans (W22_main_arg11 m ρ c),
      (h c _ (mem_uc main_arg12 (by decide))).trans (W22_main_arg12 m ρ c)⟩)

end Cert.KernelIdeal.Gat

end
-- ==== Proof.Spec.lean ====
/- The pieces of the network as functions of arrays over the extended reals: a matrix product, the edge weights, the messages, the
   exponential linear unit and the masked maximum of one group of rows. -/
module

public import Idealize.ShloMosaic.PureOps.Ideal.Laws
public import Idealize.ShloMosaic.Lib.Pointwise

@[expose] public section

noncomputable section

namespace Cert.Gat

open Idealize.ShloMosaic

/-- An `[n, m]` array of extended reals. -/
abbrev Mat (n m : Nat) : Type := (⟨2, ![n, m]⟩ : Shape).Idx → EReal

/-- The matrix product. -/
def mm {n k m : Nat} (x : Mat n k) (w : Mat k m) : Mat n m := fun i => ∑ q : Fin k, x (ix2 (i 0) q) * w (ix2 q (i 1))

/-- The exponential of the leaky rectifier of slope 0.2 (the f32 nearest to it). -/
def lexp (v : EReal) : EReal :=
  FloatOps.exp (F := Ideal) (φ := .f32)
    (Scalar.select (FloatOps.cmpf (F := Ideal) (φ := .f32) .oge v (Ideal.ofBits .f32 0x00000000#32)) v (Ideal.ofBits .f32 0x3E4CCCCD#32 * v))

/-- The exponential linear unit. -/
def elu (v : EReal) : EReal :=
  Scalar.select (FloatOps.cmpf (F := Ideal) (φ := .f32) .ogt v (Ideal.ofBits .f32 0x00000000#32)) v
    (FloatOps.exp (F := Ideal) (φ := .f32) v - Ideal.ofBits .f32 0x3F800000#32)

/-- An edge's normalized weight: its exponential over the guarded sum of its target's. -/
def coef (e d : EReal) : EReal := FloatOps.divf (F := Ideal) (φ := .f32) e (d + Ideal.ofBits .f32 0x24E69595#32)

/-- The exponentials of the edges, from the gathered scores of the sources and of the targets. -/
def edgeEx {n m : Nat} (a b : Mat n m) : Mat n m := fun i => lexp (a i + b i)

/-- The messages of `H` heads of `C` channels, head-major columns: each feature times its head's weight. -/
def edgeMsg {n H C W : Nat} (hW : W = H * C) (h : Mat n W) (ex dn : Mat n H) : Mat n W := fun i =>
  h i * coef (ex (ix2 (i 0) ⟨(i 1).val / C, Nat.div_lt_of_lt_mul (by rw [Nat.mul_comm]; exact lt_of_lt_of_eq (i 1).isLt hW)⟩))
    (dn (ix2 (i 0) ⟨(i 1).val / C, Nat.div_lt_of_lt_mul (by rw [Nat.mul_comm]; exact lt_of_lt_of_eq (i 1).isLt hW)⟩))

/-- The exponential linear unit after the first row of `b` is added to every row. -/
def biasElu {n m r : Nat} (hr : 0 < r) (x : Mat n m) (b : Mat r m) : Mat n m := fun i => elu (x i + b (ix2 ⟨0, hr⟩ (i 1)))

/-- The greatest entry of a column over the rows whose group word is `g` (the least value where there is none). -/
def groupMax {n m : Nat} (z : Mat n m) (w : (⟨2, ![n, 1]⟩ : Shape).Idx → BitVec 32) (g : BitVec 32) (c : Fin m) : EReal :=
  (Finset.univ : Finset (Fin n)).fold max (Ideal.ofBits .f32 0xFF800000#32) fun r =>
    Scalar.select (IntOp.cmpi .eq (w (ix2 r (0 : Fin 1))) g) (z (ix2 r c)) (Ideal.ofBits .f32 0xFF800000#32)

/-- The rows `S e` of an array. -/
def takeRows {n m E : Nat} (S : Fin E → Fin n) (x : Mat n m) : Mat E m := fun i => x (ix2 (S (i 0)) (i 1))

/-- The sum over the edges `e` with `D e = n`. -/
def into {n E : Nat} (D : Fin E → Fin n) (k : Fin n) (u : Fin E → EReal) : EReal :=
  ∑ e ∈ Finset.univ.filter (fun e => D e = k), u e

/-- The sum, into each row `n`, of the rows `e` with `D e = n`. -/
def segSum {n m E : Nat} (D : Fin E → Fin n) (u : Mat E m) : Mat n m := fun i => into D (i 0) fun e => u (ix2 e (i 1))

/-- Column `c` of head `k` in a row that holds the heads side by side. -/
def col {H C W : Nat} (hW : W = H * C) (k : Fin H) (c : Fin C) : Fin W :=
  ⟨k.val * C + c.val, by
    rw [hW]
    calc k.val * C + c.val < k.val * C + C := by omega
      _ = (k.val + 1) * C := by ring
      _ ≤ H * C := Nat.mul_le_mul_right C k.isLt⟩

/-- The attention score of every node and head: the head's features times the head's attention vector. -/
def score {n H C W : Nat} (hW : W = H * C) (h : Mat n W) (a : (⟨3, ![1, H, C]⟩ : Shape).Idx → EReal) : Mat n H := fun i =>
  ∑ c : Fin C, h (ix2 (i 0) (col hW (i 1) c)) * a (ix3 0 (i 1) c)

/-- One attention layer over the edges `S e → D e`, before its bias. -/
def layer {n E H C W : Nat} (hW : W = H * C) (S D : Fin E → Fin n) (h : Mat n W)
    (a b : (⟨3, ![1, H, C]⟩ : Shape).Idx → EReal) : Mat n W :=
  segSum D (edgeMsg hW (takeRows S h)
    (edgeEx (takeRows S (score hW h a)) (takeRows D (score hW h b)))
    (takeRows D (segSum D (edgeEx (takeRows S (score hW h a)) (takeRows D (score hW h b))))))

/-- A vector in each of `r` rows. -/
def rows {m : Nat} (r : Nat) (b : (⟨1, ![m]⟩ : Shape).Idx → EReal) : Mat r m := fun i => b (ix1 (i 1))

/-- The maximum over each of `g` groups of nodes, through the last matrix, bias and `relu`. -/
def poolFc {n m p : Nat} (g : Nat) (z : Mat n m) (w : (⟨2, ![n, 1]⟩ : Shape).Idx → BitVec 32) (fc : Mat m p)
    (b : (⟨1, ![p]⟩ : Shape).Idx → EReal) : Mat g p := fun i =>
  max ((∑ q : Fin m, groupMax z w (BitVec.ofNat 32 (i 0).val) q * fc (ix2 q (i 1))) + b (ix1 (i 1)))
    (Ideal.ofBits .f32 0x00000000#32)

/-- The whole network. -/
def network (S D : Fin 170000 → Fin 10000) (x : Mat 10000 78) (batch : (⟨1, ![10000]⟩ : Shape).Idx → BitVec 32)
    (w1 : Mat 78 640) (a1 b1 : (⟨3, ![1, 10, 64]⟩ : Shape).Idx → EReal) (c1 : (⟨1, ![640]⟩ : Shape).Idx → EReal)
    (w2 : Mat 640 64) (a2 b2 : (⟨3, ![1, 1, 64]⟩ : Shape).Idx → EReal) (c2 : (⟨1, ![64]⟩ : Shape).Idx → EReal)
    (fc : Mat 64 64) (c3 : (⟨1, ![64]⟩ : Shape).Idx → EReal) : Mat 256 64 :=
  poolFc 256
    (biasElu (r := 8) (by decide)
      (layer (H := 1) (C := 64) rfl S D
        (mm (biasElu (r := 8) (by decide) (layer (H := 10) (C := 64) rfl S D (mm x w1) a1 b1) (rows 8 c1)) w2) a2 b2) (rows 8 c2))
    (fun i => batch (ix1 (i 0))) fc c3

/-- The head of a column. -/
def headOf {H C W : Nat} (hW : W = H * C) (j : Fin W) : Fin H :=
  ⟨j.val / C, Nat.div_lt_of_lt_mul (by rw [Nat.mul_comm]; exact lt_of_lt_of_eq j.isLt hW)⟩

/-- The place of a column within its head. -/
def chanOf {H C W : Nat} (hW : W = H * C) (j : Fin W) : Fin C :=
  ⟨j.val % C, Nat.mod_lt _ (by
    have h := lt_of_lt_of_eq j.isLt hW
    rcases Nat.eq_zero_or_pos C with rfl | hc
    · simp at h
    · exact hc)⟩

/-- The block matrix of an attention vector: the head's part of the vector in the head's column, zero elsewhere. -/
def attMat {H C W : Nat} (hW : W = H * C) (a : (⟨3, ![1, H, C]⟩ : Shape).Idx → EReal) : Mat W H := fun i =>
  (if (i 0).val / C = (i 1).val then 1 else 0) * a (ix3 0 (headOf hW (i 0)) (chanOf hW (i 0)))

theorem headOf_col {H C W : Nat} (hW : W = H * C) (k : Fin H) (c : Fin C) : headOf hW (col hW k c) = k := Fin.ext (by
  show (k.val * C + c.val) / C = k.val
  rw [Nat.add_comm, Nat.add_mul_div_right _ _ (lt_of_le_of_lt (Nat.zero_le _) c.isLt), Nat.div_eq_of_lt c.isLt, Nat.zero_add])

theorem chanOf_col {H C W : Nat} (hW : W = H * C) (k : Fin H) (c : Fin C) : chanOf hW (col hW k c) = c := Fin.ext (by
  show (k.val * C + c.val) % C = c.val
  rw [Nat.add_comm, Nat.add_mul_mod_self_right, Nat.mod_eq_of_lt c.isLt])

/-- A sum over the columns is a sum over the heads and the places within a head. -/
theorem sum_col {H C W : Nat} (hW : W = H * C) (f : Fin W → EReal) : ∑ j, f j = ∑ k : Fin H, ∑ c : Fin C, f (col hW k c) := by
  subst hW
  rw [← finProdFinEquiv.sum_comp, Fintype.sum_prod_type]
  refine Finset.sum_congr rfl fun k _ => Finset.sum_congr rfl fun c _ => congrArg f (Fin.ext ?_)
  show c.val + C * k.val = k.val * C + c.val
  ring

/-- The product with the block matrix is the score. -/
theorem mm_attMat {n H C W : Nat} (hW : W = H * C) (h : Mat n W) (a : (⟨3, ![1, H, C]⟩ : Shape).Idx → EReal) :
    mm h (attMat hW a) = score hW h a := by
  funext i
  obtain ⟨r, k, rfl⟩ : ∃ r k, i = ix2 r k := ⟨_, _, eq_ix2 i⟩
  show ∑ q : Fin W, h (ix2 r q) * ((if (headOf hW q).val = k.val then 1 else 0) * a (ix3 0 (headOf hW q) (chanOf hW q)))
    = ∑ c : Fin C, h (ix2 r (col hW k c)) * a (ix3 0 k c)
  rw [sum_col hW, Finset.sum_eq_single k]
  · refine Finset.sum_congr rfl fun c _ => ?_
    rw [headOf_col, chanOf_col, if_pos rfl, one_mul]
  · intro p _ hp
    refine Finset.sum_eq_zero fun c _ => ?_
    rw [headOf_col, if_neg (fun e => hp (Fin.ext e)), zero_mul, mul_zero]
  · intro hk
    exact absurd (Finset.mem_univ k) hk

end Cert.Gat

end
-- ==== Proof.Ops.lean ====
/- Reading the host's row gathers, row scatter-adds and in-range row takes at an index, at any extents. Nothing here names a program. -/
module

public import Idealize.ShloMosaic.Lib.Routing.Ops
public import Idealize.ShloMosaic.PureOps.Ideal.Laws
public import Idealize.ShloMosaic.Lib.Pointwise

@[expose] public section

noncomputable section

namespace Cert.Gat

open Idealize.ShloMosaic

/-! ## Gathers of whole slabs of a rank-3 array -/

/-- `table[idx]` over the first axis of an `[N, H, C]` array, one index word for each of `E` results. -/
abbrev slabGather (N H C E : Nat)
    (wf : GatherDims.WF ⟨3, ![N, H, C]⟩ ⟨2, ![E, 1]⟩ ⟨3, ![E, H, C]⟩ [1, 2] [0] [] [0] [] 1 ![1, H, C]) :
    GatherDims ⟨3, ![N, H, C]⟩ ⟨2, ![E, 1]⟩ ⟨3, ![E, H, C]⟩ where
  offsetDims := [1, 2]
  collapsedSliceDims := [0]
  operandBatchingDims := []
  startIndicesBatchingDims := []
  startIndexMap := [0]
  indexVectorDim := 1
  sliceSizes := ![1, H, C]
  wf := wf

/-- Where the index word of result `e` is the row number `b`, entry `(e, h, c)` of the gather is the array's entry `(b, h, c)`. -/
theorem gather_slab {α : Type} {N H C E : Nat}
    (wf : GatherDims.WF ⟨3, ![N, H, C]⟩ ⟨2, ![E, 1]⟩ ⟨3, ![E, H, C]⟩ [1, 2] [0] [] [0] [] 1 ![1, H, C])
    (x : (⟨3, ![N, H, C]⟩ : Shape).Idx → α) (idx : IVec ⟨2, ![E, 1]⟩ 32) (e : Fin E) (h : Fin H) (c : Fin C) (b : Fin N)
    (hb : idx (ix2 e (0 : Fin 1)) = BitVec.ofNat 32 b.val) (hN : N < 2 ^ 31) :
    Host.gather (slabGather N H C E wf) x idx (ix3 e h c) = x (ix3 b h c) := by
  unfold Host.gather
  refine congrArg x (funext fun a => Fin.ext ?_)
  have hbat : ∀ a', (slabGather N H C E wf).batchCoord (ix3 e h c) a' = 0 :=
    fun a' => GatherDims.batchCoord_eq_zero _ _ _ List.not_mem_nil
  show (slabGather N H C E wf).start (ix3 e h c) idx a + (slabGather N H C E wf).batchCoord (ix3 e h c) a
      + (slabGather N H C E wf).offCoord (ix3 e h c) a = _
  rw [hbat, Nat.add_zero]
  match a with
  | ⟨0, _⟩ =>
    rw [GatherDims.offCoord_eq_zero _ _ _ (fun hk => ((GatherDims.mem_sKept _ _).mp hk).1 (List.mem_singleton.mpr rfl)), Nat.add_zero]
    unfold GatherDims.start
    rw [dif_pos (show (⟨0, _⟩ : Fin 3) ∈ (slabGather N H C E wf).startIndexMap from List.mem_singleton.mpr rfl)]
    have hsi : (slabGather N H C E wf).siIdx (ix3 e h c) ⟨List.idxOf (0 : Fin 3) (slabGather N H C E wf).startIndexMap,
        List.idxOf_lt_length_iff.2 (List.mem_singleton.mpr rfl)⟩ = ix2 e (0 : Fin 1) := by
      funext b'; refine Fin.ext ?_
      match b' with
      | ⟨0, _⟩ => rfl
      | ⟨1, _⟩ => rfl
    have hbl := b.isLt
    refine (congrArg (fun z => min (idx z).toInt.toNat (N - 1)) hsi).trans ?_
    show min (idx (ix2 e (0 : Fin 1))).toInt.toNat (N - 1) = b.val
    rw [hb, StableHlo.Predicate.toInt_ofNat_small _ (by omega)]
    omega
  | ⟨1, _⟩ =>
    unfold GatherDims.start GatherDims.offCoord
    rw [dif_neg (by simp), Nat.zero_add]
    rfl
  | ⟨2, _⟩ =>
    unfold GatherDims.start GatherDims.offCoord
    rw [dif_neg (by simp), Nat.zero_add]
    rfl

/-! ## Scatter-adds of rows and of slabs -/

/-- `table.at[idx].add(rows)` over the rows of an `[N, H]` array. -/
abbrev rowScatter (N H E : Nat) (wf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ where
  updateWindowDims := [1]
  insertedWindowDims := [0]
  scatterDimsToOperandDims := [0]
  indexVectorDim := 1
  wf := wf

/-- `table.at[idx].add(slabs)` over the first axis of an `[N, H, C]` array. -/
abbrev slabScatter (N H C E : Nat) (wf : ScatterDims.WF ⟨3, ![N, H, C]⟩ ⟨2, ![E, 1]⟩ ⟨3, ![E, H, C]⟩ [1, 2] [0] [0] 1) :
    ScatterDims ⟨3, ![N, H, C]⟩ ⟨2, ![E, 1]⟩ ⟨3, ![E, H, C]⟩ where
  updateWindowDims := [1, 2]
  insertedWindowDims := [0]
  scatterDimsToOperandDims := [0]
  indexVectorDim := 1
  wf := wf

/-- Entry `(e, k)` of the updates lands at `(n, h)` exactly when the index word of `e` is `n` and `k = h`. -/
theorem row_lands {N H E : Nat} (wf : ScatterDims.WF ⟨2, ![N, H]⟩ ⟨2, ![E, 1]⟩ ⟨2, ![E, H]⟩ [1] [0] [0] 1)
    (idx : IVec ⟨2, ![E, 1]⟩ 32) (e : Fin E) (k : Fin H) (n : Fin N) (h : Fin H) :
    (rowScatter N H E wf).resultIdx? (ix2 e k) idx = some (ix2 n h)
      ↔ (idx (ix2 e (0 : Fin 1))).toInt = (n.val : Int) ∧ k = h := by
  have hs0 : (rowScatter N H E wf).start (ix2 e k) idx (0 : Fin 2) = (idx (ix2 e (0 : Fin 1))).toInt := by
    unfold ScatterDims.start
    rw [dif_pos (show (0 : Fin 2) ∈ (rowScatter N H E wf).scatterDimsToOperandDims from List.mem_singleton.mpr rfl)]
    refine congrArg (fun z => (idx z).toInt) (funext fun b' => Fin.ext ?_)
    match b' with
    | ⟨0, _⟩ => rfl
    | ⟨1, _⟩ => rfl
  have hs1 : (rowScatter N H E wf).start (ix2 e k) idx (1 : Fin 2) = 0 := by
    unfold ScatterDims.start
    rw [dif_neg (by simp)]
  have hw0 : (rowScatter N H E wf).window (ix2 e k) (0 : Fin 2) = 0 := rfl
  have hw1 : (rowScatter N H E wf).window (ix2 e k) (1 : Fin 2) = k.val := rfl
  have hn := n.isLt
  have hk := k.isLt
  unfold ScatterDims.resultIdx?
  constructor
  · intro he
    split at he
    · next hin =>
      have h0 := congrArg Fin.val (congrFun (Option.some.inj he) (0 : Fin 2))
      have h1 := congrArg Fin.val (congrFun (Option.some.inj he) (1 : Fin 2))
      have hb := (hin (0 : Fin 2)).1
      change ((rowScatter N H E wf).start (ix2 e k) idx (0 : Fin 2) + ((rowScatter N H E wf).window (ix2 e k) (0 : Fin 2) : Int)).toNat = n.val at h0
      change ((rowScatter N H E wf).start (ix2 e k) idx (1 : Fin 2) + ((rowScatter N H E wf).window (ix2 e k) (1 : Fin 2) : Int)).toNat = h.val at h1
      rw [hs0, hw0] at h0 hb
      rw [hs1, hw1] at h1
      exact ⟨by omega, Fin.ext (by omega)⟩
    · cases he
  · rintro ⟨h0, rfl⟩
    rw [dif_pos]
    · refine congrArg some (funext fun a => Fin.ext ?_)
      match a with
      | ⟨0, _⟩ =>
        show ((rowScatter N H E wf).start (ix2 e k) idx (0 : Fin 2) + ((rowScatter N H E wf).window (ix2 e k) (0 : Fin 2) : Int)).toNat = n.val
        rw [hs0, hw0]; omega
      | ⟨1, _⟩ =>
        show ((rowScatter N H E wf).start (ix2 e k) idx (1 : Fin 2) + ((rowScatter N H E wf).window (ix2 e k) (1 : Fin 2) : Int)).toNat = k.val
        rw [hs1, hw1]; omega
    · intro a
      match a with
      | ⟨0, _⟩ =>
        show 0 ≤ (rowScatter N H E wf).start (ix2 e k) idx (0 : Fin 2) + ((rowScatter N H E wf).window (ix2 e k) (0 : Fin 2) : Int)
          ∧ (rowScatter N H E wf).start (ix2 e k) idx (0 : Fin 2) + ((rowScatter N H E wf).window (ix2 e k) (0 : Fin 2) : Int) < (N : Int)
        rw [hs0, hw0]; omega
      | ⟨1, _⟩ =>
        show 0 ≤ (rowScatter N H E wf).start (ix2 e k) idx (1 : Fin 2) + ((rowScatter N H E wf).window (ix2 e k) (1 : Fin 2) : Int)
          ∧ (rowScatter N H E wf).start (ix2 e k) idx (1 : Fin 2) + ((rowScatter N H E wf).window (ix2 e k) (1 : Fin 2) : Int) < (H : Int)
        rw [hs1, hw1]; omega

/-- A row scatter-add at `(n, h)`, where the index word of `e` is the row number `D e`: the operand's entry plus the sum over the
    updates `e` of row `n` of their entries `h`. -/
theorem scatterAdd_row {N H E : Nat} (wf : ScatterDims.WF ⟨2, ![N, H]⟩ ⟨2, ![E, 1]⟩ ⟨2, ![E, H]⟩ [1] [0] [0] 1)
    (x : (⟨2, ![N, H]⟩ : Shape).Idx → EReal) (idx : IVec ⟨2, ![E, 1]⟩ 32) (upd : (⟨2, ![E, H]⟩ : Shape).Idx → EReal)
    (D : Fin E → Fin N) (hD : ∀ e, idx (ix2 e (0 : Fin 1)) = BitVec.ofNat 32 (D e).val) (hN : N < 2 ^ 31) (n : Fin N) (h : Fin H) :
    Ideal.hostScatterAdd (rowScatter N H E wf) x idx upd (ix2 n h)
      = x (ix2 n h) + ∑ e ∈ Finset.univ.filter (fun e => D e = n), upd (ix2 e h) := by
  have hD' : ∀ e, (idx (ix2 e (0 : Fin 1))).toInt = ((D e).val : Int) := fun e => by
    have := (D e).isLt
    rw [hD e, StableHlo.Predicate.toInt_ofNat_small _ (by omega)]
  unfold Ideal.hostScatterAdd
  refine congrArg (x (ix2 n h) + ·) (Finset.sum_bij (fun e _ => ix2 e h) ?_ ?_ ?_ fun _ _ => rfl).symm
  · intro e he
    rw [Finset.mem_filter] at he ⊢
    exact ⟨Finset.mem_univ _, (row_lands wf idx e h n h).2 ⟨by rw [hD' e, he.2], rfl⟩⟩
  · intro e _ e' _ hee
    exact Fin.ext (congrArg Fin.val (congrFun hee (0 : Fin 2)))
  · intro j hj
    rw [Finset.mem_filter] at hj
    obtain ⟨e, k, rfl⟩ : ∃ e k, j = ix2 e k := ⟨_, _, eq_ix2 j⟩
    obtain ⟨h1, rfl⟩ := (row_lands wf idx e k n h).1 hj.2
    rw [hD' e] at h1
    exact ⟨e, by rw [Finset.mem_filter]; exact ⟨Finset.mem_univ _, Fin.ext (by omega)⟩, rfl⟩

/-- Entry `(e, k, l)` of the updates lands at `(n, h, c)` exactly when the index word of `e` is `n`, `k = h` and `l = c`. -/
theorem slab_lands {N H C E : Nat} (wf : ScatterDims.WF ⟨3, ![N, H, C]⟩ ⟨2, ![E, 1]⟩ ⟨3, ![E, H, C]⟩ [1, 2] [0] [0] 1)
    (idx : IVec ⟨2, ![E, 1]⟩ 32) (e : Fin E) (k : Fin H) (l : Fin C) (n : Fin N) (h : Fin H) (c : Fin C) :
    (slabScatter N H C E wf).resultIdx? (ix3 e k l) idx = some (ix3 n h c)
      ↔ (idx (ix2 e (0 : Fin 1))).toInt = (n.val : Int) ∧ k = h ∧ l = c := by
  have key : ∀ a : Fin 3, (slabScatter N H C E wf).start (ix3 e k l) idx a + ((slabScatter N H C E wf).window (ix3 e k l) a : Int)
      = (![(idx (ix2 e (0 : Fin 1))).toInt, (k.val : Int), (l.val : Int)] : Fin 3 → Int) a := by
    intro a
    match a with
    | ⟨0, _⟩ =>
      have hs0 : (slabScatter N H C E wf).start (ix3 e k l) idx (0 : Fin 3) = (idx (ix2 e (0 : Fin 1))).toInt := by
        unfold ScatterDims.start
        rw [dif_pos (show (0 : Fin 3) ∈ (slabScatter N H C E wf).scatterDimsToOperandDims from List.mem_singleton.mpr rfl)]
        refine congrArg (fun z => (idx z).toInt) (funext fun b' => Fin.ext ?_)
        match b' with
        | ⟨0, _⟩ => rfl
        | ⟨1, _⟩ => rfl
      show (slabScatter N H C E wf).start (ix3 e k l) idx (0 : Fin 3) + ((0 : Nat) : Int) = (idx (ix2 e (0 : Fin 1))).toInt
      rw [hs0]; omega
    | ⟨1, _⟩ =>
      have hs1 : (slabScatter N H C E wf).start (ix3 e k l) idx (1 : Fin 3) = 0 := by
        unfold ScatterDims.start
        rw [dif_neg (by simp)]
      show (slabScatter N H C E wf).start (ix3 e k l) idx (1 : Fin 3) + (k.val : Int) = (k.val : Int)
      rw [hs1]; omega
    | ⟨2, _⟩ =>
      have hs2 : (slabScatter N H C E wf).start (ix3 e k l) idx (2 : Fin 3) = 0 := by
        unfold ScatterDims.start
        rw [dif_neg (by simp)]
      show (slabScatter N H C E wf).start (ix3 e k l) idx (2 : Fin 3) + (l.val : Int) = (l.val : Int)
      rw [hs2]; omega
  have hn := n.isLt
  have hk := k.isLt
  have hl := l.isLt
  unfold ScatterDims.resultIdx?
  constructor
  · intro he
    split at he
    · next hin =>
      have hv := fun a : Fin 3 => congrArg Fin.val (congrFun (Option.some.inj he) a)
      have h0 := hv 0
      have h1 := hv 1
      have h2 := hv 2
      have hb := (hin (0 : Fin 3)).1
      rw [key 0] at hb
      change ((slabScatter N H C E wf).start (ix3 e k l) idx (0 : Fin 3) + ((slabScatter N H C E wf).window (ix3 e k l) (0 : Fin 3) : Int)).toNat = n.val at h0
      change ((slabScatter N H C E wf).start (ix3 e k l) idx (1 : Fin 3) + ((slabScatter N H C E wf).window (ix3 e k l) (1 : Fin 3) : Int)).toNat = h.val at h1
      change ((slabScatter N H C E wf).start (ix3 e k l) idx (2 : Fin 3) + ((slabScatter N H C E wf).window (ix3 e k l) (2 : Fin 3) : Int)).toNat = c.val at h2
      rw [key 0] at h0
      rw [key 1] at h1
      rw [key 2] at h2
      change (idx (ix2 e (0 : Fin 1))).toInt.toNat = n.val at h0
      change 0 ≤ (idx (ix2 e (0 : Fin 1))).toInt at hb
      change (k.val : Int).toNat = h.val at h1
      change (l.val : Int).toNat = c.val at h2
      exact ⟨by omega, Fin.ext (by omega), Fin.ext (by omega)⟩
    · cases he
  · rintro ⟨h0, rfl, rfl⟩
    rw [dif_pos]
    · refine congrArg some (funext fun a => Fin.ext ?_)
      refine (congrArg Int.toNat (key a)).trans ?_
      match a with
      | ⟨0, _⟩ => show (idx (ix2 e (0 : Fin 1))).toInt.toNat = n.val; omega
      | ⟨1, _⟩ => show (k.val : Int).toNat = k.val; omega
      | ⟨2, _⟩ => show (l.val : Int).toNat = l.val; omega
    · intro a
      rw [key a]
      match a with
      | ⟨0, _⟩ => show 0 ≤ (idx (ix2 e (0 : Fin 1))).toInt ∧ (idx (ix2 e (0 : Fin 1))).toInt < (N : Int); omega
      | ⟨1, _⟩ => show 0 ≤ (k.val : Int) ∧ (k.val : Int) < (H : Int); omega
      | ⟨2, _⟩ => show 0 ≤ (l.val : Int) ∧ (l.val : Int) < (C : Int); omega

/-- A slab scatter-add at `(n, h, c)`: the operand's entry plus the sum over the updates `e` of row `n` of their entries `(h, c)`. -/
theorem scatterAdd_slab {N H C E : Nat} (wf : ScatterDims.WF ⟨3, ![N, H, C]⟩ ⟨2, ![E, 1]⟩ ⟨3, ![E, H, C]⟩ [1, 2] [0] [0] 1)
    (x : (⟨3, ![N, H, C]⟩ : Shape).Idx → EReal) (idx : IVec ⟨2, ![E, 1]⟩ 32) (upd : (⟨3, ![E, H, C]⟩ : Shape).Idx → EReal)
    (D : Fin E → Fin N) (hD : ∀ e, idx (ix2 e (0 : Fin 1)) = BitVec.ofNat 32 (D e).val) (hN : N < 2 ^ 31)
    (n : Fin N) (h : Fin H) (c : Fin C) :
    Ideal.hostScatterAdd (slabScatter N H C E wf) x idx upd (ix3 n h c)
      = x (ix3 n h c) + ∑ e ∈ Finset.univ.filter (fun e => D e = n), upd (ix3 e h c) := by
  have hD' : ∀ e, (idx (ix2 e (0 : Fin 1))).toInt = ((D e).val : Int) := fun e => by
    have := (D e).isLt
    rw [hD e, StableHlo.Predicate.toInt_ofNat_small _ (by omega)]
  unfold Ideal.hostScatterAdd
  refine congrArg (x (ix3 n h c) + ·) (Finset.sum_bij (fun e _ => ix3 e h c) ?_ ?_ ?_ fun _ _ => rfl).symm
  · intro e he
    rw [Finset.mem_filter] at he ⊢
    exact ⟨Finset.mem_univ _, (slab_lands wf idx e h c n h c).2 ⟨by rw [hD' e, he.2], rfl, rfl⟩⟩
  · intro e _ e' _ hee
    exact Fin.ext (congrArg Fin.val (congrFun hee (0 : Fin 3)))
  · intro j hj
    rw [Finset.mem_filter] at hj
    obtain ⟨e, k, l, rfl⟩ : ∃ e k l, j = ix3 e k l := ⟨_, _, _, eq_ix3 j⟩
    obtain ⟨h1, rfl, rfl⟩ := (slab_lands wf idx e k l n h c).1 hj.2
    rw [hD' e] at h1
    exact ⟨e, by rw [Finset.mem_filter]; exact ⟨Finset.mem_univ _, Fin.ext (by omega)⟩, rfl⟩

end Cert.Gat

end
-- ==== Proof.Take.lean ====
/- The edge lists of the graph with its self loops, and the host's in-range row takes by them, read at an index. Nothing here names a
   program. -/
module

public import proofs.«01_k».proof.Proof.Ops
public import proofs.«01_k».proof.Proof.Spec
public import Idealize.ShloMosaic.Lib.ReduceAll
public import Idealize.ShloMosaic.Lib.WordCmp
public import Idealize.ShloMosaic.Lib.Pipeline.Value

@[expose] public section

noncomputable section

namespace Cert.Gat

open Idealize.ShloMosaic Idealize.ShloMosaic.WordCmp

/-- The edge words: row 0 the sources, row 1 the targets. -/
abbrev EdgeWords : Type := IVec ⟨2, ![2, 160000]⟩ 32

/-- Every edge word is a node number. -/
def InRange (e : EdgeWords) : Prop := ∀ i, (e i).toNat < 10000

/-- Node `r` of edge `j`: an edge's own for the first 160000, and node `j - 160000` for the self loops after them. -/
def endpoint (e : EdgeWords) (r : Fin 2) (j : Fin 170000) : Fin 10000 :=
  if h : j.val < 160000 then ⟨(e (ix2 r ⟨j.val, h⟩)).toNat % 10000, Nat.mod_lt _ (by decide)⟩
  else ⟨j.val - 160000, by have := j.isLt; omega⟩

theorem endpoint_edge (e : EdgeWords) (he : InRange e) (r : Fin 2) (j : Fin 170000) (h : j.val < 160000) :
    e (ix2 r ⟨j.val, h⟩) = BitVec.ofNat 32 (endpoint e r j).val := by
  unfold endpoint
  rw [dif_pos h]
  show _ = BitVec.ofNat 32 ((e (ix2 r ⟨j.val, h⟩)).toNat % 10000)
  rw [Nat.mod_eq_of_lt (he _), BitVec.ofNat_toNat, BitVec.setWidth_eq]

theorem endpoint_loop (e : EdgeWords) (r : Fin 2) (j : Fin 170000) (h : ¬j.val < 160000) :
    BitVec.ofNat 32 (j.val - 160000) = BitVec.ofNat 32 (endpoint e r j).val := by
  unfold endpoint
  rw [dif_neg h]

/-- A node number is below the sign bit and not negative: the wrapped word is the word. -/
theorem wrap_word (n : Fin 10000) :
    Scalar.select (IntOp.cmpi .slt (BitVec.ofNat 32 n.val) 0#32) (IntOp.addi (BitVec.ofNat 32 n.val) 10000#32) (BitVec.ofNat 32 n.val)
      = BitVec.ofNat 32 n.val := by
  have hn := n.isLt
  rw [show IntOp.cmpi .slt (BitVec.ofNat 32 n.val) 0#32 = 0#1 from
    (cmpi_slt_ofNat_eq_zero_iff (w := 32) (a := n.val) (b := 0) (by omega) (by omega)).2 (by omega)]
  rfl

theorem range_word (n : Fin 10000) :
    IntOp.andi (IntOp.cmpi .sge (BitVec.ofNat 32 n.val) 0#32) (IntOp.cmpi .sle (BitVec.ofNat 32 n.val) 9999#32) = 1#1 := by
  have hn := n.isLt
  rw [show IntOp.cmpi .sge (BitVec.ofNat 32 n.val) 0#32 = 1#1 from
      (cmpi_sge_ofNat_eq_one_iff (w := 32) (a := n.val) (b := 0) (by omega) (by omega)).2 (by omega),
    show IntOp.cmpi .sle (BitVec.ofNat 32 n.val) 9999#32 = 1#1 from
      (cmpi_sle_ofNat_eq_one_iff (w := 32) (a := n.val) (b := 9999) (by omega) (by omega)).2 (by omega)]
  rfl

/-- The index column of a take: each word, plus the table's length where it is negative. -/
abbrev takeCol (w : IVec ⟨1, ![170000]⟩ 32) (h0 : (⟨0, ![]⟩ : Shape).BroadcastsInDim ⟨1, ![170000]⟩ ![])
    (h1 : (⟨1, ![170000]⟩ : Shape).BroadcastsInDim ⟨2, ![170000, 1]⟩ ![0]) : IVec ⟨2, ![170000, 1]⟩ 32 :=
  broadcastInDim _ ![0] h1 (select (cmpi .slt w (broadcastInDim _ ![] h0 (constantI ⟨0, ![]⟩ 32 0#32)))
    (addi w (broadcastInDim _ ![] h0 (constantI ⟨0, ![]⟩ 32 10000#32))) w)

theorem takeCol_apply (w : IVec ⟨1, ![170000]⟩ 32) (S : Fin 170000 → Fin 10000) (hw : ∀ j, w (ix1 j) = BitVec.ofNat 32 (S j).val)
    (h0 : (⟨0, ![]⟩ : Shape).BroadcastsInDim ⟨1, ![170000]⟩ ![]) (h1 : (⟨1, ![170000]⟩ : Shape).BroadcastsInDim ⟨2, ![170000, 1]⟩ ![0])
    (j : Fin 170000) : takeCol w h0 h1 (ix2 j (0 : Fin 1)) = BitVec.ofNat 32 (S j).val := by
  have e : takeCol w h0 h1 (ix2 j (0 : Fin 1))
      = Scalar.select (IntOp.cmpi .slt (w (ix1 j)) 0#32) (IntOp.addi (w (ix1 j)) 10000#32) (w (ix1 j)) := by pointwise
  rw [e, hw j, wrap_word]

/-- A take of rows whose index words are node numbers reads those rows: no word is out of range, so nothing is filled in. -/
theorem take_apply {K : Nat} (x : (⟨2, ![10000, K]⟩ : Shape).Idx → EReal) (w : IVec ⟨1, ![170000]⟩ 32) (S : Fin 170000 → Fin 10000)
    (hw : ∀ j, w (ix1 j) = BitVec.ofNat 32 (S j).val)
    (d : GatherDims ⟨2, ![10000, K]⟩ ⟨2, ![170000, 1]⟩ ⟨2, ![170000, K]⟩) (hoff : d.offsetDims = [1])
    (hcoll : d.collapsedSliceDims = [0]) (hob : d.operandBatchingDims = []) (hsim : d.startIndexMap = [0]) (hivd : d.indexVectorDim = 1)
    (h0 : (⟨0, ![]⟩ : Shape).BroadcastsInDim ⟨1, ![170000]⟩ ![]) (h1 : (⟨1, ![170000]⟩ : Shape).BroadcastsInDim ⟨2, ![170000, 1]⟩ ![0])
    (h2 : (⟨0, ![]⟩ : Shape).BroadcastsInDim ⟨2, ![170000, 1]⟩ ![]) (h3 : (⟨1, ![1]⟩ : Shape).BroadcastsInDim ⟨2, ![1, 1]⟩ ![1])
    (h4 : (⟨2, ![1, 1]⟩ : Shape).BroadcastsInDim ⟨2, ![170000, 1]⟩ ![0, 1])
    (h5 : (⟨1, ![170000]⟩ : Shape).BroadcastsInDim ⟨2, ![170000, K]⟩ ![0])
    (h6 : (⟨2, ![170000, 1]⟩ : Shape).ReducesTo [1] ⟨1, ![170000]⟩) (h7 : 0 < (⟨0, ![]⟩ : Shape).numel)
    (fill : (⟨2, ![170000, K]⟩ : Shape).Idx → EReal) (i : (⟨2, ![170000, K]⟩ : Shape).Idx) :
    select (broadcastInDim ⟨2, ![170000, K]⟩ ![0] h5
        (Host.reduce IntOp.andi
          (andi (cmpi .sge (takeCol w h0 h1) (broadcastInDim ⟨2, ![170000, 1]⟩ ![] h2 (constantI ⟨0, ![]⟩ 32 0#32)))
            (cmpi .sle (takeCol w h0 h1)
              (broadcastInDim ⟨2, ![170000, 1]⟩ ![0, 1] h4 (broadcastInDim ⟨2, ![1, 1]⟩ ![1] h3 (constantI ⟨1, ![1]⟩ 32 9999#32)))))
          (constantI ⟨0, ![]⟩ 1 1#1) h6 h7))
      (Host.gather d x (takeCol w h0 h1)) fill i = x (ix2 (S (i 0)) (i 1)) := by
  have hall : ∀ k : (⟨2, ![170000, 1]⟩ : Shape).Idx,
      andi (cmpi .sge (takeCol w h0 h1) (broadcastInDim ⟨2, ![170000, 1]⟩ ![] h2 (constantI ⟨0, ![]⟩ 32 0#32)))
        (cmpi .sle (takeCol w h0 h1)
          (broadcastInDim ⟨2, ![170000, 1]⟩ ![0, 1] h4 (broadcastInDim ⟨2, ![1, 1]⟩ ![1] h3 (constantI ⟨1, ![1]⟩ 32 9999#32)))) k = 1#1 := by
    intro k
    obtain ⟨a, b, rfl⟩ : ∃ (a : Fin 170000) (b : Fin 1), k = ix2 a b := ⟨_, _, eq_ix2 k⟩
    obtain rfl : b = 0 := Subsingleton.elim _ _
    show IntOp.andi (IntOp.cmpi .sge (takeCol w h0 h1 (ix2 a (0 : Fin 1))) 0#32)
      (IntOp.cmpi .sle (takeCol w h0 h1 (ix2 a (0 : Fin 1))) 9999#32) = 1#1
    rw [takeCol_apply w S hw, range_word]
  have hred : ∀ j, Host.reduce IntOp.andi
      (andi (cmpi .sge (takeCol w h0 h1) (broadcastInDim ⟨2, ![170000, 1]⟩ ![] h2 (constantI ⟨0, ![]⟩ 32 0#32)))
        (cmpi .sle (takeCol w h0 h1)
          (broadcastInDim ⟨2, ![170000, 1]⟩ ![0, 1] h4 (broadcastInDim ⟨2, ![1, 1]⟩ ![1] h3 (constantI ⟨1, ![1]⟩ 32 9999#32)))))
      (constantI ⟨0, ![]⟩ 1 1#1) h6 h7 j = 1#1 := fun j => Host.reduce_andi_one _ _ h6 h7 j rfl hall
  show Scalar.select (Host.reduce IntOp.andi _ _ h6 h7 _) (Host.gather d x (takeCol w h0 h1) i) (fill i) = _
  rw [hred]
  show Host.gather d x (takeCol w h0 h1) i = _
  rw [eq_ix2 i]
  exact Routing.gather_row d hoff hcoll hob hsim hivd x _ (i 0) (i 1) (S (i 0)) (takeCol_apply w S hw h0 h1 (i 0)) (by omega)

/-- A row of the edge words followed by the self loops. -/
theorem edgeList_apply (e : EdgeWords) (he : InRange e) (r : Fin 2) (o : Nat) (ho : o = r.val)
    (hs : (⟨2, ![2, 160000]⟩ : Shape).Slices ![o, 0] ⟨2, ![1, 160000]⟩) (hc : (⟨2, ![1, 160000]⟩ : Shape).ShapeCasts ⟨1, ![160000]⟩)
    (h : Shape.Concatenates [(⟨1, ![160000]⟩ : Shape), ⟨1, ![10000]⟩] ⟨1, ![170000]⟩ 0) (j : Fin 170000) :
    concatenate ⟨1, ![170000]⟩ 0 [⟨⟨1, ![160000]⟩, shapeCast ⟨1, ![160000]⟩ (extractStridedSlice ⟨2, ![1, 160000]⟩ ![o, 0] e hs) hc⟩,
      ⟨⟨1, ![10000]⟩, iotaInDim ⟨1, ![10000]⟩ 32 0⟩] h (ix1 j) = BitVec.ofNat 32 (endpoint e r j).val := by
  subst ho
  by_cases hj : j.val < 160000
  · refine (concatenate_pair_apply_left 0 _ _ h (ix1 j) rfl (ix1 ⟨j.val, hj⟩) (fun b => by fin_cases b; rfl)).trans ?_
    refine Eq.trans ?_ (endpoint_edge e he r j hj)
    refine (shapeCast_apply _ hc (ix1 ⟨j.val, hj⟩) (ix2 (0 : Fin 1) ⟨j.val, hj⟩) ?_).trans ?_
    · rewrite [Shape.rowMajor_val_two, Shape.rowMajor_val_one]
      show 0 * 160000 + j.val = j.val
      omega
    · refine extractStridedSlice_apply _ e hs _ _ fun a => ?_
      fin_cases a
      · rfl
      · exact (Nat.zero_add _).symm
  · refine (concatenate_pair_apply_right 0 _ _ h (ix1 j) rfl rfl (ix1 ⟨j.val - 160000, by have := j.isLt; omega⟩)
      (fun b hb => by fin_cases b; exact absurd rfl hb) ?_).trans ?_
    · show j.val - 160000 + 160000 = j.val
      omega
    · exact endpoint_loop e r j hj

/-- A scatter-add of rows into zeros by node numbers is the segment sum. -/
theorem segSum_eq {K : Nat} (wf : ScatterDims.WF ⟨2, ![10000, K]⟩ ⟨2, ![170000, 1]⟩ ⟨2, ![170000, K]⟩ [1] [0] [0] 1)
    (w : IVec ⟨1, ![170000]⟩ 32) (D : Fin 170000 → Fin 10000) (hw : ∀ j, w (ix1 j) = BitVec.ofNat 32 (D j).val)
    (h0 : (⟨0, ![]⟩ : Shape).BroadcastsInDim ⟨2, ![10000, K]⟩ ![]) (h1 : (⟨1, ![170000]⟩ : Shape).BroadcastsInDim ⟨2, ![170000, 1]⟩ ![0]) (u : Mat 170000 K) :
    Host.scatterAdd (F := Ideal) (φ := .f32) (rowScatter 10000 K 170000 wf)
      (broadcastInDim ⟨2, ![10000, K]⟩ ![] h0 (constant ⟨0, ![]⟩ .f32 0x00000000#32)) (broadcastInDim ⟨2, ![170000, 1]⟩ ![0] h1 w) u = segSum D u := by
  funext i
  obtain ⟨n, k, rfl⟩ : ∃ n k, i = ix2 n k := ⟨_, _, eq_ix2 i⟩
  refine (scatterAdd_row wf _ _ u D (fun e => ?_) (by decide) n k).trans ?_
  · refine Eq.trans ?_ (hw e)
    pointwise
  · unfold segSum into
    refine (congrArg (· + _) (Ideal.ofBits_zero_f32)).trans (zero_add _)

end Cert.Gat

end
-- ==== Proof.HostReads.lean ====
/- What the host operations between the kernels leave in the buffers that the kernels read: the edge lists, the gathered rows, the
   segment sums, the block matrices of the attention vectors and the bias rows. -/
module

public import proofs.«01_k».proof.Proof.Gen.KernelIdeal.Frame
public import proofs.«01_k».proof.Proof.Spec
public import proofs.«01_k».proof.Proof.Take
public import Idealize.ShloMosaic.Lib.StableHlo.ReadAt

@[expose] public section

set_option maxRecDepth 16384

noncomputable section

namespace Cert.KernelIdeal.Gat

open Idealize.ShloMosaic Idealize.ShloMosaic.TcCoe Idealize.ShloMosaic.Tactic Idealize.SL.Sem
open Cert.KernelIdeal Cert.KernelIdeal.Gen Cert.Gat

variable (V : Valuation τ sig (Elt Ideal))

/-- The word test of two small numbers, as a float, is one where they are equal and zero elsewhere. -/
theorem eye_apply (a b : Nat) (ha : a < 1000) (hb : b < 1000) :
    (FloatOps.uitofp (F := Ideal) .f32 (IntOp.cmpi .eq (IntOp.addi (BitVec.ofNat 32 a) 0#32) (BitVec.ofNat 32 b)) : EReal) = if a = b then 1 else 0 := by
  have e : IntOp.addi (BitVec.ofNat 32 a) 0#32 = BitVec.ofNat 32 a := BitVec.add_zero _
  rw [e]
  by_cases h : a = b
  · subst h
    rw [if_pos rfl, show IntOp.cmpi .eq (BitVec.ofNat 32 a) (BitVec.ofNat 32 a) = 1#1 from by simp [IntOp.cmpi]]
    show (((1#1 : BitVec 1).toNat : ℝ) : EReal) = 1
    simp
  · have hne : BitVec.ofNat 32 a ≠ BitVec.ofNat 32 b := fun e => h (by
      have := congrArg BitVec.toNat e
      rw [BitVec.toNat_ofNat, BitVec.toNat_ofNat, Nat.mod_eq_of_lt (by omega), Nat.mod_eq_of_lt (by omega)] at this
      exact this)
    rw [if_neg h, show IntOp.cmpi .eq (BitVec.ofNat 32 a) (BitVec.ofNat 32 b) = 0#1 from by
      show BitVec.ofBool (_ == _) = _
      rw [beq_false_of_ne hne]
      rfl]
    show (((0#1 : BitVec 1).toNat : ℝ) : EReal) = 0
    simp

theorem read_v37 (S : Fin 170000 → Fin 10000) (hw : ∀ j, (V (Proc.devRef .tc main_v3) : IVec S170000 32) (ix1 j) = BitVec.ofNat 32 (S j).val) :
    StableHlo.after (hostOps1 (F := Ideal)) V (Proc.devRef .tc main_v37) = takeRows S (V (Proc.devRef .tc main_v36_1) : Mat 10000 10) := by
  after_reads_simp
  simp -implicitDefEqProofs only [StableHlo.TRef.toBuf, StableHlo.TRef.ofBuf, cast_cast, cast_eq]
  exact funext fun i => take_apply _ _ S hw _ rfl rfl rfl rfl rfl _ _ _ _ _ _ _ _ _ i

theorem read_v38 (S : Fin 170000 → Fin 10000) (hw : ∀ j, (V (Proc.devRef .tc main_v6) : IVec S170000 32) (ix1 j) = BitVec.ofNat 32 (S j).val) :
    StableHlo.after (hostOps1_1 (F := Ideal)) V (Proc.devRef .tc main_v38) = takeRows S (V (Proc.devRef .tc main_v36_2) : Mat 10000 10) := by
  after_reads_simp
  simp -implicitDefEqProofs only [StableHlo.TRef.toBuf, StableHlo.TRef.ofBuf, cast_cast, cast_eq]
  exact funext fun i => take_apply _ _ S hw _ rfl rfl rfl rfl rfl _ _ _ _ _ _ _ _ _ i

theorem read_v43 (S : Fin 170000 → Fin 10000) (hw : ∀ j, (V (Proc.devRef .tc main_v3) : IVec S170000 32) (ix1 j) = BitVec.ofNat 32 (S j).val) :
    StableHlo.after (hostOps2_1 (F := Ideal)) V (Proc.devRef .tc main_v43) = takeRows S (V (Proc.devRef .tc main_v36_0) : Mat 10000 640) := by
  after_reads_simp
  simp -implicitDefEqProofs only [StableHlo.TRef.toBuf, StableHlo.TRef.ofBuf, cast_cast, cast_eq]
  exact funext fun i => take_apply _ _ S hw _ rfl rfl rfl rfl rfl _ _ _ _ _ _ _ _ _ i

theorem read_v44 (S : Fin 170000 → Fin 10000) (hw : ∀ j, (V (Proc.devRef .tc main_v6) : IVec S170000 32) (ix1 j) = BitVec.ofNat 32 (S j).val) :
    StableHlo.after (hostOps2_2 (F := Ideal)) V (Proc.devRef .tc main_v44) = takeRows S (V (Proc.devRef .tc main_v42) : Mat 10000 10) := by
  after_reads_simp
  simp -implicitDefEqProofs only [StableHlo.TRef.toBuf, StableHlo.TRef.ofBuf, cast_cast, cast_eq]
  exact funext fun i => take_apply _ _ S hw _ rfl rfl rfl rfl rfl _ _ _ _ _ _ _ _ _ i

theorem read_v76 (S : Fin 170000 → Fin 10000) (hw : ∀ j, (V (Proc.devRef .tc main_v3) : IVec S170000 32) (ix1 j) = BitVec.ofNat 32 (S j).val) :
    StableHlo.after (hostOps4 (F := Ideal)) V (Proc.devRef .tc main_v76) = takeRows S (V (Proc.devRef .tc main_v75_1) : Mat 10000 1) := by
  after_reads_simp
  simp -implicitDefEqProofs only [StableHlo.TRef.toBuf, StableHlo.TRef.ofBuf, cast_cast, cast_eq]
  exact funext fun i => take_apply _ _ S hw _ rfl rfl rfl rfl rfl _ _ _ _ _ _ _ _ _ i

theorem read_v77 (S : Fin 170000 → Fin 10000) (hw : ∀ j, (V (Proc.devRef .tc main_v6) : IVec S170000 32) (ix1 j) = BitVec.ofNat 32 (S j).val) :
    StableHlo.after (hostOps4_1 (F := Ideal)) V (Proc.devRef .tc main_v77) = takeRows S (V (Proc.devRef .tc main_v75_2) : Mat 10000 1) := by
  after_reads_simp
  simp -implicitDefEqProofs only [StableHlo.TRef.toBuf, StableHlo.TRef.ofBuf, cast_cast, cast_eq]
  exact funext fun i => take_apply _ _ S hw _ rfl rfl rfl rfl rfl _ _ _ _ _ _ _ _ _ i

theorem read_v82 (S : Fin 170000 → Fin 10000) (hw : ∀ j, (V (Proc.devRef .tc main_v3) : IVec S170000 32) (ix1 j) = BitVec.ofNat 32 (S j).val) :
    StableHlo.after (hostOps5_1 (F := Ideal)) V (Proc.devRef .tc main_v82) = takeRows S (V (Proc.devRef .tc main_v75_0) : Mat 10000 64) := by
  after_reads_simp
  simp -implicitDefEqProofs only [StableHlo.TRef.toBuf, StableHlo.TRef.ofBuf, cast_cast, cast_eq]
  exact funext fun i => take_apply _ _ S hw _ rfl rfl rfl rfl rfl _ _ _ _ _ _ _ _ _ i

theorem read_v83 (S : Fin 170000 → Fin 10000) (hw : ∀ j, (V (Proc.devRef .tc main_v6) : IVec S170000 32) (ix1 j) = BitVec.ofNat 32 (S j).val) :
    StableHlo.after (hostOps5_2 (F := Ideal)) V (Proc.devRef .tc main_v83) = takeRows S (V (Proc.devRef .tc main_v81) : Mat 10000 1) := by
  after_reads_simp
  simp -implicitDefEqProofs only [StableHlo.TRef.toBuf, StableHlo.TRef.ofBuf, cast_cast, cast_eq]
  exact funext fun i => take_apply _ _ S hw _ rfl rfl rfl rfl rfl _ _ _ _ _ _ _ _ _ i

theorem read_v42 (D : Fin 170000 → Fin 10000) (hw : ∀ j, (V (Proc.devRef .tc main_v6) : IVec S170000 32) (ix1 j) = BitVec.ofNat 32 (D j).val) :
    StableHlo.after (hostOps2 (F := Ideal)) V (Proc.devRef .tc main_v42) = segSum D (V (Proc.devRef .tc main_v39) : Mat 170000 10) := by
  after_reads_simp
  exact segSum_eq _ _ D hw _ _ _

theorem read_v48 (D : Fin 170000 → Fin 10000) (hw : ∀ j, (V (Proc.devRef .tc main_v6) : IVec S170000 32) (ix1 j) = BitVec.ofNat 32 (D j).val) :
    StableHlo.after (hostOps3 (F := Ideal)) V (Proc.devRef .tc main_v48) = segSum D (V (Proc.devRef .tc main_v45) : Mat 170000 640) := by
  after_reads_simp
  exact segSum_eq _ _ D hw _ _ _

theorem read_v81 (D : Fin 170000 → Fin 10000) (hw : ∀ j, (V (Proc.devRef .tc main_v6) : IVec S170000 32) (ix1 j) = BitVec.ofNat 32 (D j).val) :
    StableHlo.after (hostOps5 (F := Ideal)) V (Proc.devRef .tc main_v81) = segSum D (V (Proc.devRef .tc main_v78) : Mat 170000 1) := by
  after_reads_simp
  exact segSum_eq _ _ D hw _ _ _

theorem read_v87 (D : Fin 170000 → Fin 10000) (hw : ∀ j, (V (Proc.devRef .tc main_v6) : IVec S170000 32) (ix1 j) = BitVec.ofNat 32 (D j).val) :
    StableHlo.after (hostOps6 (F := Ideal)) V (Proc.devRef .tc main_v87) = segSum D (V (Proc.devRef .tc main_v84) : Mat 170000 64) := by
  after_reads_simp
  exact segSum_eq _ _ D hw _ _ _

theorem read_v3 (he : InRange (V (Proc.devRef .tc main_arg1))) (j : Fin 170000) :
    (StableHlo.after (hostOps0 (F := Ideal)) V (Proc.devRef .tc main_v3) : IVec S170000 32) (ix1 j)
      = BitVec.ofNat 32 (endpoint (V (Proc.devRef .tc main_arg1)) 0 j).val := by
  after_reads_simp
  exact edgeList_apply _ he 0 0 rfl _ _ _ j

theorem read_v6 (he : InRange (V (Proc.devRef .tc main_arg1))) (j : Fin 170000) :
    (StableHlo.after (hostOps0 (F := Ideal)) V (Proc.devRef .tc main_v6) : IVec S170000 32) (ix1 j)
      = BitVec.ofNat 32 (endpoint (V (Proc.devRef .tc main_arg1)) 1 j).val := by
  after_reads_simp
  exact edgeList_apply _ he 1 1 rfl _ _ _ j

theorem read_v19 : StableHlo.after (hostOps0 (F := Ideal)) V (Proc.devRef .tc main_v19)
    = attMat (H := 10) (C := 64) (W := 640) rfl (V (Proc.devRef .tc main_arg4) : S1x10x64.Idx → EReal) := by
  refine funext fun (i : S640x10.Idx) => ?_
  obtain ⟨j, k, rfl⟩ : ∃ j k, i = ix2 j k := ⟨_, _, eq_ix2 i⟩
  after_reads_at
  exact congrArg₂ (HMul.hMul : EReal → EReal → EReal) (eye_apply _ _ (by have := j.isLt; omega) (by have := k.isLt; omega)) rfl

theorem read_v32 : StableHlo.after (hostOps0 (F := Ideal)) V (Proc.devRef .tc main_v32)
    = attMat (H := 10) (C := 64) (W := 640) rfl (V (Proc.devRef .tc main_arg5) : S1x10x64.Idx → EReal) := by
  refine funext fun (i : S640x10.Idx) => ?_
  obtain ⟨j, k, rfl⟩ : ∃ j k, i = ix2 j k := ⟨_, _, eq_ix2 i⟩
  after_reads_at
  exact congrArg₂ (HMul.hMul : EReal → EReal → EReal) (eye_apply _ _ (by have := j.isLt; omega) (by have := k.isLt; omega)) rfl

theorem read_v60 : StableHlo.after (hostOps3 (F := Ideal)) V (Proc.devRef .tc main_v60)
    = attMat (H := 1) (C := 64) (W := 64) rfl (V (Proc.devRef .tc main_arg8) : S1x1x64.Idx → EReal) := by
  refine funext fun (i : S64x1.Idx) => ?_
  obtain ⟨j, k, rfl⟩ : ∃ j k, i = ix2 j k := ⟨_, _, eq_ix2 i⟩
  obtain rfl : k = 0 := Subsingleton.elim _ _
  after_reads_at
  refine congrArg₂ (HMul.hMul : EReal → EReal → EReal) ((eye_apply 0 0 (by decide) (by decide)).trans (if_congr ?_ rfl rfl))
    (congrArg (V (Proc.devRef .tc main_arg8) : S1x1x64.Idx → EReal) (congrArg₂ (ix3 0) (Subsingleton.elim _ _) (Fin.ext (Nat.mod_eq_of_lt j.isLt).symm)))
  exact iff_of_true rfl (Nat.div_eq_of_lt j.isLt)

theorem read_v72 : StableHlo.after (hostOps3 (F := Ideal)) V (Proc.devRef .tc main_v72)
    = attMat (H := 1) (C := 64) (W := 64) rfl (V (Proc.devRef .tc main_arg9) : S1x1x64.Idx → EReal) := by
  refine funext fun (i : S64x1.Idx) => ?_
  obtain ⟨j, k, rfl⟩ : ∃ j k, i = ix2 j k := ⟨_, _, eq_ix2 i⟩
  obtain rfl : k = 0 := Subsingleton.elim _ _
  after_reads_at
  refine congrArg₂ (HMul.hMul : EReal → EReal → EReal) ((eye_apply 0 0 (by decide) (by decide)).trans (if_congr ?_ rfl rfl))
    (congrArg (V (Proc.devRef .tc main_arg9) : S1x1x64.Idx → EReal) (congrArg₂ (ix3 0) (Subsingleton.elim _ _) (Fin.ext (Nat.mod_eq_of_lt j.isLt).symm)))
  exact iff_of_true rfl (Nat.div_eq_of_lt j.isLt)

theorem read_v74 (i : Fin 8) (j : Fin 640) :
    (StableHlo.after (hostOps3 (F := Ideal)) V (Proc.devRef .tc main_v74) : Mat 8 640) (ix2 i j) = (V (Proc.devRef .tc main_arg6) : S640.Idx → EReal) (ix1 j) := by
  after_reads_at

theorem read_v89 (i : Fin 8) (j : Fin 64) :
    (StableHlo.after (hostOps6 (F := Ideal)) V (Proc.devRef .tc main_v89) : Mat 8 64) (ix2 i j) = (V (Proc.devRef .tc main_arg10) : S64.Idx → EReal) (ix1 j) := by
  after_reads_at

theorem read_v91 (n : Fin 10000) :
    (StableHlo.after (hostOps7 (F := Ideal)) V (Proc.devRef .tc main_v91) : IVec S10000x1 32) (ix2 n (0 : Fin 1)) = (V (Proc.devRef .tc main_arg2) : IVec S10000 32) (ix1 n) := by
  after_reads_at

theorem read_v93 (i : Fin 8) (j : Fin 64) :
    (StableHlo.after (hostOps7 (F := Ideal)) V (Proc.devRef .tc main_v93) : Mat 8 64) (ix2 i j) = (V (Proc.devRef .tc main_arg12) : S64.Idx → EReal) (ix1 j) := by
  after_reads_at

end Cert.KernelIdeal.Gat

end
-- ==== Proof.Proj1.lean ====
/- The arrays that the first projection and the two edge-weight kernels leave. -/
module

public import proofs.«01_k».proof.Proof.Gen.KernelIdeal.Frame
public import proofs.«01_k».proof.Proof.Spec
public import Idealize.ShloMosaic.Lib.Pipeline.ValueKit
public import Idealize.ShloMosaic.Lib.Pipeline.Value

@[expose] public section

set_option maxRecDepth 16384

noncomputable section

namespace Cert.KernelIdeal.Gat

open Idealize.ShloMosaic Idealize.ShloMosaic.TcCoe Idealize.ShloMosaic.Tactic
open Cert.KernelIdeal Cert.KernelIdeal.Gen Cert.Gat

variable (V : (c : Dev nD) → (b : Ref sig .tc) → Buf (Elt Ideal) ((c : Thread nD τ).loc b))

/-! ## Features and scores of the first layer -/

theorem pay0_1 (x : Vec Ideal S1000x78 .f32) (w : Vec Ideal S78x640 .f32) : k0_pay1 x w = mm x w := by
  funext i
  unfold k0_pay1 mm
  pointwise

theorem pay0_2 (x : Vec Ideal S1000x78 .f32) (w : Vec Ideal S78x640 .f32) (a : Vec Ideal S640x10 .f32) :
    k0_pay2 x w a = mm (mm x w) a := by
  rw [← pay0_1]
  funext i
  unfold k0_pay2 mm
  simp only [shapeCast_self]
  pointwise

theorem pay0_3 (x : Vec Ideal S1000x78 .f32) (w : Vec Ideal S78x640 .f32) (a : Vec Ideal S640x10 .f32) :
    k0_pay3 x w a = mm (mm x w) a := pay0_2 x w a

theorem idx0 : ∀ t : Fin cfg0.N, win0_0.index t = ![t.val, 0] ∧ win0_1.index t = ![0, 0] ∧ win0_2.index t = ![0, 0]
    ∧ win0_3.index t = ![0, 0] ∧ win0_5.index t = ![t.val, 0] ∧ win0_6.index t = ![t.val, 0] ∧ win0_7.index t = ![t.val, 0] :=
  (by decide +kernel : ∀ t : Fin grid0.N, _)

/-- The features of the first layer. -/
theorem arr0_h (c : Dev nD) : (dat0 V c).arrAt 5 cfg0.N
    = (mm (V c main_arg0 : Mat 10000 78) (V c main_arg3 : Mat 78 640) : Mat 10000 640) := by
  refine (dat0 V c).arrAt_eq_of_covers 5 _ (by decide +kernel) fun t hf y => ?_
  obtain ⟨e0, e1, e2, e3, e5, e6, e7⟩ := idx0 t
  blk_simp
  rw [after0_5]
  frame_out
  rw [pay0_1]
  unfold mm
  blk_point [iblk0, e0, e1, e5]

theorem arr0_s (c : Dev nD) : (dat0 V c).arrAt 6 cfg0.N
    = (mm (mm (V c main_arg0 : Mat 10000 78) (V c main_arg3 : Mat 78 640)) (V c main_v19 : Mat 640 10) : Mat 10000 10) := by
  refine (dat0 V c).arrAt_eq_of_covers 6 _ (by decide +kernel) fun t hf y => ?_
  obtain ⟨e0, e1, e2, e3, e5, e6, e7⟩ := idx0 t
  blk_simp
  rw [after0_6]
  frame_out
  rw [pay0_2]
  unfold mm
  blk_point [iblk0, e0, e1, e2, e6]

theorem arr0_d (c : Dev nD) : (dat0 V c).arrAt 7 cfg0.N
    = (mm (mm (V c main_arg0 : Mat 10000 78) (V c main_arg3 : Mat 78 640)) (V c main_v32 : Mat 640 10) : Mat 10000 10) := by
  refine (dat0 V c).arrAt_eq_of_covers 7 _ (by decide +kernel) fun t hf y => ?_
  obtain ⟨e0, e1, e2, e3, e5, e6, e7⟩ := idx0 t
  blk_simp
  rw [after0_7]
  frame_out
  rw [pay0_3]
  unfold mm
  blk_point [iblk0, e0, e1, e3, e7]

end Cert.KernelIdeal.Gat

end
-- ==== Proof.EdgeEx.lean ====
/- The arrays that the two edge-weight kernels leave. -/
module

public import proofs.«01_k».proof.Proof.Gen.KernelIdeal.Frame
public import proofs.«01_k».proof.Proof.Spec
public import Idealize.ShloMosaic.Lib.Pipeline.ValueKit
public import Idealize.ShloMosaic.Lib.Pipeline.Value

@[expose] public section

set_option maxRecDepth 16384

noncomputable section

namespace Cert.KernelIdeal.Gat

open Idealize.ShloMosaic Idealize.ShloMosaic.TcCoe Idealize.ShloMosaic.Tactic
open Cert.KernelIdeal Cert.KernelIdeal.Gen Cert.Gat

variable (V : (c : Dev nD) → (b : Ref sig .tc) → Buf (Elt Ideal) ((c : Thread nD τ).loc b))

theorem pay1 (x y : Vec Ideal S10000x10 .f32) : k1_pay1 x y = edgeEx x y := by
  funext i
  unfold k1_pay1
  simp only [shapeCast_self]
  rfl

theorem idx1 : ∀ t : Fin cfg1.N, win1_0.index t = ![t.val, 0] ∧ win1_1.index t = ![t.val, 0] ∧ win1_2.index t = ![t.val, 0] :=
  (by decide +kernel : ∀ t : Fin grid1.N, _)

/-- The edge exponentials of the first layer. -/
theorem arr1 (c : Dev nD) : (dat1 V c).arrAt 2 cfg1.N
    = (edgeEx (V c main_v37 : Mat 170000 10) (V c main_v38 : Mat 170000 10) : Mat 170000 10) := by
  refine (dat1 V c).arrAt_eq_of_covers 2 _ (by decide +kernel) fun t hf y => ?_
  obtain ⟨e0, e1, e2⟩ := idx1 t
  blk_simp
  rw [after1_2]
  frame_out
  rw [pay1]
  unfold edgeEx
  blk_point [iblk1, e0, e1, e2]

theorem pay4 (x y : Vec Ideal S10000x1 .f32) : k4_pay1 x y = edgeEx x y := by
  funext i
  unfold k4_pay1
  simp only [shapeCast_self]
  rfl

theorem idx4 : ∀ t : Fin cfg4.N, win4_0.index t = ![t.val, 0] ∧ win4_1.index t = ![t.val, 0] ∧ win4_2.index t = ![t.val, 0] :=
  (by decide +kernel : ∀ t : Fin grid4.N, _)

/-- The edge exponentials of the second layer. -/
theorem arr4 (c : Dev nD) : (dat4 V c).arrAt 2 cfg4.N
    = (edgeEx (V c main_v76 : Mat 170000 1) (V c main_v77 : Mat 170000 1) : Mat 170000 1) := by
  refine (dat4 V c).arrAt_eq_of_covers 2 _ (by decide +kernel) fun t hf y => ?_
  obtain ⟨e0, e1, e2⟩ := idx4 t
  blk_simp
  rw [after4_2]
  frame_out
  rw [pay4]
  unfold edgeEx
  blk_point [iblk4, e0, e1, e2]

end Cert.KernelIdeal.Gat

end
-- ==== Proof.EdgeMsg.lean ====
/- The arrays that the two message kernels leave. -/
module

public import proofs.«01_k».proof.Proof.Gen.KernelIdeal.Frame
public import proofs.«01_k».proof.Proof.Spec
public import Idealize.ShloMosaic.Lib.Pipeline.ValueKit
public import Idealize.ShloMosaic.Lib.Pipeline.Value

@[expose] public section

set_option maxRecDepth 16384

noncomputable section

namespace Cert.KernelIdeal.Gat

open Idealize.ShloMosaic Idealize.ShloMosaic.TcCoe Idealize.ShloMosaic.Tactic
open Cert.KernelIdeal Cert.KernelIdeal.Gen Cert.Gat

variable (V : (c : Dev nD) → (b : Ref sig .tc) → Buf (Elt Ideal) ((c : Thread nD τ).loc b))

/-- The messages of one head: 64 columns of the features times the head's column of weights. -/
def piece2 (h : FVec Ideal S2000x640 .f32) (a : FVec Ideal S2000x10 .f32) (k : Fin 10) : FVec Ideal S2000x64 .f32 := fun i =>
  h (ix2 (i 0) ⟨64 * k.val + (i 1).val, by have := k.isLt; have : (i 1).val < 64 := (i 1).isLt; omega⟩) * a (ix2 (i 0) k)

theorem piece2_eq (h : FVec Ideal S2000x640 .f32) (a : FVec Ideal S2000x10 .f32) (k : Fin 10) (o o' : Nat) (ho : o = 64 * k.val)
    (ho' : o' = k.val) (hs : S2000x640.Slices ![0, o] S2000x64) (ha : S2000x10.Slices ![0, o'] S2000x1)
    (hb : S2000x1.Broadcasts S2000x64) :
    mulf (extractStridedSlice S2000x64 ![0, o] h hs) (broadcastTo S2000x64 (extractStridedSlice S2000x1 ![0, o'] a ha) hb)
      = piece2 h a k := by
  subst ho ho'
  funext i
  unfold piece2
  pointwise

/-- Ten equal-width pieces side by side, read at a column. -/
theorem side10 (p0 p1 p2 p3 p4 p5 p6 p7 p8 p9 : FVec Ideal S2000x64 .f32) (f : Fin 10 → FVec Ideal S2000x64 .f32)
    (hp : ![p0, p1, p2, p3, p4, p5, p6, p7, p8, p9] = f)
    (h : Shape.Concatenates ([(⟨S2000x64, p0⟩ : (s : Shape) × (s.Idx → EReal)), (⟨S2000x64, p1⟩ : (s : Shape) × (s.Idx → EReal)), (⟨S2000x64, p2⟩ : (s : Shape) × (s.Idx → EReal)), (⟨S2000x64, p3⟩ : (s : Shape) × (s.Idx → EReal)), (⟨S2000x64, p4⟩ : (s : Shape) × (s.Idx → EReal)), (⟨S2000x64, p5⟩ : (s : Shape) × (s.Idx → EReal)), (⟨S2000x64, p6⟩ : (s : Shape) × (s.Idx → EReal)), (⟨S2000x64, p7⟩ : (s : Shape) × (s.Idx → EReal)), (⟨S2000x64, p8⟩ : (s : Shape) × (s.Idx → EReal)), (⟨S2000x64, p9⟩ : (s : Shape) × (s.Idx → EReal))].map (·.1)) S2000x640 1)
    (i : S2000x640.Idx) :
    concatenate S2000x640 1 [⟨S2000x64, p0⟩, ⟨S2000x64, p1⟩, ⟨S2000x64, p2⟩, ⟨S2000x64, p3⟩, ⟨S2000x64, p4⟩, ⟨S2000x64, p5⟩, ⟨S2000x64, p6⟩, ⟨S2000x64, p7⟩, ⟨S2000x64, p8⟩, ⟨S2000x64, p9⟩] h i
      = f ⟨(i 1).val / 64, by have : (i 1).val < 640 := (i 1).isLt; omega⟩ (ix2 (i 0) ⟨(i 1).val % 64, Nat.mod_lt _ (by decide)⟩) := by
  subst hp
  refine concatenate_ofFn_apply (s₁ := S2000x64) 1 ![p0, p1, p2, p3, p4, p5, p6, p7, p8, p9] h rfl 64 rfl i _ rfl _ rfl (fun b hb => ?_)
  fin_cases b
  · rfl
  · exact absurd rfl hb

theorem pay2 (ex dn : Vec Ideal S2000x10 .f32) (h : Vec Ideal S2000x640 .f32) :
    k2_pay1 ex dn h = edgeMsg (H := 10) (C := 64) (by decide) h ex dn := by
  funext i
  unfold k2_pay1
  simp only [shapeCast_self]
  refine (side10 _ _ _ _ _ _ _ _ _ _ (piece2 h (divf ex (addf dn (broadcast S2000x10 (FloatOps.ofBits .f32 0x24E69595#32))))) ?_ _ i).trans ?_
  · funext k
    fin_cases k
    all_goals refine piece2_eq h _ _ _ _ ?_ ?_ _ _ _ <;> rfl
  · unfold piece2 edgeMsg coef
    refine congrArg₂ (· * ·) (congrArg h ((eq_ix2 i).trans ?_).symm) rfl
    exact congrArg (ix2 (i 0)) (Fin.ext (Nat.div_add_mod (i 1).val 64).symm)

theorem idx2 : ∀ t : Fin cfg2.N, win2_0.index t = ![t.val, 0] ∧ win2_1.index t = ![t.val, 0] ∧ win2_2.index t = ![t.val, 0]
    ∧ win2_3.index t = ![t.val, 0] :=
  (by decide +kernel : ∀ t : Fin grid2.N, _)

/-- The messages of the first layer. -/
theorem arr2 (c : Dev nD) : (dat2 V c).arrAt 3 cfg2.N
    = (edgeMsg (H := 10) (C := 64) (by decide) (V c main_v43 : Mat 170000 640) (V c main_v39 : Mat 170000 10) (V c main_v44 : Mat 170000 10)
        : Mat 170000 640) := by
  refine (dat2 V c).arrAt_eq_of_covers 3 _ (by decide +kernel) fun t hf y => ?_
  obtain ⟨e0, e1, e2, e3⟩ := idx2 t
  blk_simp
  rw [after2_3]
  frame_out
  rw [pay2]
  unfold edgeMsg
  blk_point [iblk2, e0, e1, e2, e3]

theorem pay5 (ex dn : Vec Ideal S10000x1 .f32) (h : Vec Ideal S10000x64 .f32) :
    k5_pay1 ex dn h = edgeMsg (H := 1) (C := 64) (by decide) h ex dn := by
  funext i
  unfold k5_pay1 edgeMsg coef
  simp only [shapeCast_self]
  pointwise
  exact congrArg (fun k : Fin 1 => h i * Ideal.div (ex (ix2 (i 0) k)) (dn (ix2 (i 0) k) + Ideal.ofBits .f32 0x24E69595#32))
    (Subsingleton.elim _ _)

theorem idx5 : ∀ t : Fin cfg5.N, win5_0.index t = ![t.val, 0] ∧ win5_1.index t = ![t.val, 0] ∧ win5_2.index t = ![t.val, 0]
    ∧ win5_3.index t = ![t.val, 0] :=
  (by decide +kernel : ∀ t : Fin grid5.N, _)

/-- The messages of the second layer. -/
theorem arr5 (c : Dev nD) : (dat5 V c).arrAt 3 cfg5.N
    = (edgeMsg (H := 1) (C := 64) (by decide) (V c main_v82 : Mat 170000 64) (V c main_v78 : Mat 170000 1) (V c main_v83 : Mat 170000 1)
        : Mat 170000 64) := by
  refine (dat5 V c).arrAt_eq_of_covers 3 _ (by decide +kernel) fun t hf y => ?_
  obtain ⟨e0, e1, e2, e3⟩ := idx5 t
  blk_simp
  rw [after5_3]
  frame_out
  rw [pay5]
  unfold edgeMsg
  blk_point [iblk5, e0, e1, e2, e3]

end Cert.KernelIdeal.Gat

end
-- ==== Proof.Proj2.lean ====
/- The arrays that the second projection and the closing bias kernel leave. -/
module

public import proofs.«01_k».proof.Proof.Gen.KernelIdeal.Frame
public import proofs.«01_k».proof.Proof.Spec
public import Idealize.ShloMosaic.Lib.Pipeline.ValueKit
public import Idealize.ShloMosaic.Lib.Pipeline.Value

@[expose] public section

set_option maxRecDepth 16384

noncomputable section

namespace Cert.KernelIdeal.Gat

open Idealize.ShloMosaic Idealize.ShloMosaic.TcCoe Idealize.ShloMosaic.Tactic
open Cert.KernelIdeal Cert.KernelIdeal.Gen Cert.Gat

variable (V : (c : Dev nD) → (b : Ref sig .tc) → Buf (Elt Ideal) ((c : Thread nD τ).loc b))

theorem pay3_1 (x : Vec Ideal S1000x640 .f32) (b : Vec Ideal S1x640 .f32) (w : Vec Ideal S640x64 .f32) :
    k3_pay1 x b w = mm (biasElu Nat.one_pos x b) w := by
  funext i
  unfold k3_pay1 mm biasElu elu
  simp only [shapeCast_self]
  pointwise

theorem pay3_2 (x : Vec Ideal S1000x640 .f32) (b : Vec Ideal S1x640 .f32) (w : Vec Ideal S640x64 .f32) (a : Vec Ideal S64x1 .f32) :
    k3_pay2 x b w a = mm (mm (biasElu Nat.one_pos x b) w) a := by
  rw [← pay3_1]
  funext i
  unfold k3_pay2 mm
  simp only [shapeCast_self]
  pointwise

theorem pay3_3 (x : Vec Ideal S1000x640 .f32) (b : Vec Ideal S1x640 .f32) (w : Vec Ideal S640x64 .f32) (a : Vec Ideal S64x1 .f32) :
    k3_pay3 x b w a = mm (mm (biasElu Nat.one_pos x b) w) a := pay3_2 x b w a

/-- The first row of the bias block. -/
theorem row3 (x : Vec Ideal S8x640 .f32) : View.ld x r3_1 = fun y => x (ix2 (0 : Fin 8) (y 1)) :=
  funext fun y => View.ld_unit_apply_of x _ _ _ y _ fun a => by
    fin_cases a
    · have : (y 0).val < 1 := (y 0).isLt
      show 0 = 0 + (y 0).val
      omega
    · exact (Nat.zero_add _).symm

theorem idx3 : ∀ t : Fin cfg3.N, win3_0.index t = ![t.val, 0] ∧ win3_1.index t = ![0, 0] ∧ win3_2.index t = ![0, 0]
    ∧ win3_3.index t = ![0, 0] ∧ win3_4.index t = ![0, 0] ∧ win3_5.index t = ![t.val, 0] ∧ win3_6.index t = ![t.val, 0]
    ∧ win3_7.index t = ![t.val, 0] :=
  (by decide +kernel : ∀ t : Fin grid3.N, _)

/-- The features of the second layer. -/
theorem arr3_h (c : Dev nD) : (dat3 V c).arrAt 5 cfg3.N
    = (mm (biasElu (by decide) (V c main_v48 : Mat 10000 640) (V c main_v74 : Mat 8 640)) (V c main_arg7 : Mat 640 64) : Mat 10000 64) := by
  refine (dat3 V c).arrAt_eq_of_covers 5 _ (by decide +kernel) fun t hf y => ?_
  obtain ⟨e0, e1, e2, e3, e4, e5, e6, e7⟩ := idx3 t
  blk_simp
  rw [after3_5]
  frame_out
  rw [pay3_1, row3]
  unfold mm biasElu
  blk_point [iblk3, e0, e1, e4, e5]

theorem arr3_s (c : Dev nD) : (dat3 V c).arrAt 6 cfg3.N
    = (mm (mm (biasElu (by decide) (V c main_v48 : Mat 10000 640) (V c main_v74 : Mat 8 640)) (V c main_arg7 : Mat 640 64))
        (V c main_v60 : Mat 64 1) : Mat 10000 1) := by
  refine (dat3 V c).arrAt_eq_of_covers 6 _ (by decide +kernel) fun t hf y => ?_
  obtain ⟨e0, e1, e2, e3, e4, e5, e6, e7⟩ := idx3 t
  blk_simp
  rw [after3_6]
  frame_out
  rw [pay3_2, row3]
  unfold mm biasElu
  blk_point [iblk3, e0, e1, e2, e4, e6]

theorem arr3_d (c : Dev nD) : (dat3 V c).arrAt 7 cfg3.N
    = (mm (mm (biasElu (by decide) (V c main_v48 : Mat 10000 640) (V c main_v74 : Mat 8 640)) (V c main_arg7 : Mat 640 64))
        (V c main_v72 : Mat 64 1) : Mat 10000 1) := by
  refine (dat3 V c).arrAt_eq_of_covers 7 _ (by decide +kernel) fun t hf y => ?_
  obtain ⟨e0, e1, e2, e3, e4, e5, e6, e7⟩ := idx3 t
  blk_simp
  rw [after3_7]
  frame_out
  rw [pay3_3, row3]
  unfold mm biasElu
  blk_point [iblk3, e0, e1, e3, e4, e7]

/-- The first row of the closing bias block. -/
theorem row6 (x : Vec Ideal S8x64 .f32) : View.ld x r6_1 = fun y => x (ix2 (0 : Fin 8) (y 1)) :=
  funext fun y => View.ld_unit_apply_of x _ _ _ y _ fun a => by
    fin_cases a
    · have : (y 0).val < 1 := (y 0).isLt
      show 0 = 0 + (y 0).val
      omega
    · exact (Nat.zero_add _).symm

theorem idx6 : ∀ t : Fin cfg6.N, win6_0.index t = ![t.val, 0] ∧ win6_1.index t = ![0, 0] ∧ win6_2.index t = ![t.val, 0] :=
  (by decide +kernel : ∀ t : Fin grid6.N, _)

theorem pay6 (x : Vec Ideal S1000x64 .f32) (b : Vec Ideal S1x64 .f32) : k6_pay1 x b = biasElu Nat.one_pos x b := by
  funext i
  unfold k6_pay1 biasElu elu
  simp only [shapeCast_self]
  pointwise

/-- The second layer's output. -/
theorem arr6 (c : Dev nD) : (dat6 V c).arrAt 2 cfg6.N
    = (biasElu (by decide) (V c main_v87 : Mat 10000 64) (V c main_v89 : Mat 8 64) : Mat 10000 64) := by
  refine (dat6 V c).arrAt_eq_of_covers 2 _ (by decide +kernel) fun t hf y => ?_
  obtain ⟨e0, e1, e2⟩ := idx6 t
  blk_simp
  rw [after6_2]
  frame_out
  rw [pay6, row6]
  unfold biasElu
  blk_point [iblk6, e0, e1, e2]

end Cert.KernelIdeal.Gat

end
-- ==== Proof.Pool.lean ====
/- The array that the pooling kernel leaves. -/
module

public import proofs.«01_k».proof.Proof.Gen.KernelIdeal.Frame
public import proofs.«01_k».proof.Proof.Spec
public import Idealize.ShloMosaic.Lib.Pipeline.ValueKit
public import Idealize.ShloMosaic.Lib.Pipeline.Value

@[expose] public section

set_option maxRecDepth 16384

noncomputable section

namespace Cert.KernelIdeal.Gat

open Idealize.ShloMosaic Idealize.ShloMosaic.TcCoe Idealize.ShloMosaic.Tactic
open Cert.KernelIdeal Cert.KernelIdeal.Gen Cert.Gat

variable (V : (c : Dev nD) → (b : Ref sig .tc) → Buf (Elt Ideal) ((c : Thread nD τ).loc b))

/-- One row of the pooled block: the maxima of group `8 n + k`. -/
def pooled (z : FVec Ideal S10000x64 .f32) (w : IVec S10000x1 32) (n : Nat) (k : Fin 8) : FVec Ideal S1x64 .f32 :=
  fun i => groupMax z w (BitVec.ofNat 32 (n * 8 + k.val)) (i 1)

/-- A masked maximum over all rows, laid out as a row, is the pooled row of the group the mask compares with. -/
theorem poolRow (z : FVec Ideal S10000x64 .f32) (w : IVec S10000x1 32) (n : Nat) (k : Fin 8) (g : BitVec 32)
    (hg : g = BitVec.ofNat 32 k.val) :
    shapeCast S1x64 (multiReduction .maximumf [0] S64
      (select (broadcastTo S10000x64 (cmpi .eq w (broadcast S10000x1 (Scalar.addi (Scalar.muli (BitVec.ofNat 32 n) 8#32) g)))
          broadcasts_S10000x1_S10000x64) z
        (broadcast S10000x64 (FloatOps.ofBits (F := Ideal) .f32 0xFF800000#32)))
      0xFF800000#32 reduces_S10000x64_S64 (.inl rfl) rfl) shapeCasts_S64_S1x64 = pooled z w n k := by
  have hw : Scalar.addi (Scalar.muli (BitVec.ofNat 32 n) 8#32) g = BitVec.ofNat 32 (n * 8 + k.val) := by
    subst hg
    show BitVec.ofNat 32 n * BitVec.ofNat 32 8 + BitVec.ofNat 32 k.val = _
    rw [BitVec.ofNat_add, BitVec.ofNat_mul]
  rw [hw]
  funext i
  unfold pooled groupMax
  pointwise

/-- Eight rows one above the other, read at a row. -/
theorem stack8 (p0 p1 p2 p3 p4 p5 p6 p7 : FVec Ideal S1x64 .f32) (f : Fin 8 → FVec Ideal S1x64 .f32)
    (hp : ![p0, p1, p2, p3, p4, p5, p6, p7] = f)
    (h : Shape.Concatenates ([(⟨S1x64, p0⟩ : (s : Shape) × (s.Idx → EReal)), (⟨S1x64, p1⟩ : (s : Shape) × (s.Idx → EReal)), (⟨S1x64, p2⟩ : (s : Shape) × (s.Idx → EReal)), (⟨S1x64, p3⟩ : (s : Shape) × (s.Idx → EReal)), (⟨S1x64, p4⟩ : (s : Shape) × (s.Idx → EReal)), (⟨S1x64, p5⟩ : (s : Shape) × (s.Idx → EReal)), (⟨S1x64, p6⟩ : (s : Shape) × (s.Idx → EReal)), (⟨S1x64, p7⟩ : (s : Shape) × (s.Idx → EReal))].map (·.1)) S8x64 0) :
    concatenate S8x64 0 [⟨S1x64, p0⟩, ⟨S1x64, p1⟩, ⟨S1x64, p2⟩, ⟨S1x64, p3⟩, ⟨S1x64, p4⟩, ⟨S1x64, p5⟩, ⟨S1x64, p6⟩, ⟨S1x64, p7⟩] h = fun i => f (i 0) (ix2 (0 : Fin 1) (i 1)) := by
  subst hp
  funext i
  refine concatenate_ofFn_unit_apply (s₁ := S1x64) 0 ![p0, p1, p2, p3, p4, p5, p6, p7] h rfl rfl i (i 0) rfl _ (fun b hb => ?_)
  fin_cases b
  · exact absurd rfl hb
  · rfl

theorem whole7_0 (z : Vec Ideal S10000x64 .f32) : View.ld z r7_0 = z :=
  funext fun y => View.ld_unit_apply_of z _ _ _ y y fun a => by
    fin_cases a <;> exact (Nat.zero_add _).symm

theorem whole7_1 (w : Vec Ideal S10000x1 .i32) : View.ld w r7_1 = w :=
  funext fun y => View.ld_unit_apply_of w _ _ _ y y fun a => by
    fin_cases a <;> exact (Nat.zero_add _).symm

/-- What the body leaves: the pooled rows times the matrix, plus the bias, rectified. -/
theorem pay7 (i : grid7.Coords) (z : Vec Ideal S10000x64 .f32) (w : Vec Ideal S10000x1 .i32) (m : Vec Ideal S64x64 .f32)
    (b : Vec Ideal S8x64 .f32) :
    k7_pay1 (k7_pay4 i z w) (k7_pay5 i z w) (k7_pay6 i z w)
      (k7_pay8 (k7_pay13 i z w m b) (FloatOps.ofBits .f32 0xFF800000#32) (k7_pay7 (F := Ideal) i w))
      (k7_pay9 (BitVec.ofNat 32 (i 0).val) (k7_pay13 i z w m b) (k7_pay14 i z w m b))
      (k7_pay10 (BitVec.ofNat 32 (i 0).val) (k7_pay13 i z w m b) (k7_pay14 i z w m b))
      (k7_pay11 (BitVec.ofNat 32 (i 0).val) (k7_pay13 i z w m b) (k7_pay14 i z w m b))
      (k7_pay12 (BitVec.ofNat 32 (i 0).val) (k7_pay13 i z w m b) (k7_pay14 i z w m b)) m b
      = fun y => max ((∑ q : Fin 64, groupMax z w (BitVec.ofNat 32 ((i 0).val * 8 + (y 0).val)) q * m (ix2 q (y 1))) + b y)
          (Ideal.ofBits .f32 0x00000000#32) := by
  have e13 : k7_pay13 i z w m b = z := by unfold k7_pay13 k7_pay2; simp only [shapeCast_self]; exact whole7_0 z
  have e14 : k7_pay14 i z w m b = w := by unfold k7_pay14 k7_pay3; simp only [shapeCast_self]; exact whole7_1 w
  have e2 : k7_pay2 z = z := by unfold k7_pay2; simp only [shapeCast_self]
  have e3 : k7_pay3 (F := Ideal) w = w := by unfold k7_pay3; simp only [shapeCast_self]
  have r0 : k7_pay4 i z w = pooled z w (i 0).val 0 := by
    unfold k7_pay4; simp only [shapeCast_self, e2, e3]; exact poolRow z w _ 0 _ rfl
  have r1 : k7_pay5 i z w = pooled z w (i 0).val 1 := by
    unfold k7_pay5; simp only [shapeCast_self, e2, e3]; exact poolRow z w _ 1 _ rfl
  have r2 : k7_pay6 i z w = pooled z w (i 0).val 2 := by
    unfold k7_pay6; simp only [shapeCast_self, e2, e3]; exact poolRow z w _ 2 _ rfl
  have r3 : k7_pay8 z (FloatOps.ofBits .f32 0xFF800000#32) (k7_pay7 (F := Ideal) i w) = pooled z w (i 0).val 3 := by
    unfold k7_pay8 k7_pay7; simp only [shapeCast_self, e2, e3]; exact poolRow z w _ 3 _ rfl
  have r4 : k7_pay9 (BitVec.ofNat 32 (i 0).val) z w = pooled z w (i 0).val 4 := by
    unfold k7_pay9; simp only [shapeCast_self, e2, e3]; exact poolRow z w _ 4 _ rfl
  have r5 : k7_pay10 (BitVec.ofNat 32 (i 0).val) z w = pooled z w (i 0).val 5 := by
    unfold k7_pay10; simp only [shapeCast_self, e2, e3]; exact poolRow z w _ 5 _ rfl
  have r6 : k7_pay11 (BitVec.ofNat 32 (i 0).val) z w = pooled z w (i 0).val 6 := by
    unfold k7_pay11; simp only [shapeCast_self, e2, e3]; exact poolRow z w _ 6 _ rfl
  have r7 : shapeCast S1x64 (k7_pay12 (BitVec.ofNat 32 (i 0).val) z w) shapeCasts_S64_S1x64 = pooled z w (i 0).val 7 := by
    unfold k7_pay12; simp only [shapeCast_self, e2, e3]; exact poolRow z w _ 7 _ rfl
  rw [e13, e14]
  unfold k7_pay1
  simp only [shapeCast_self]
  rw [stack8 _ _ _ _ _ _ _ _ (pooled z w (i 0).val)]
  · funext y
    unfold pooled
    pointwise
  · rw [r0, r1, r2, r3, r4, r5, r6, r7]
    funext k
    fin_cases k <;> rfl

theorem idx7 : ∀ t : Fin cfg7.N, win7_0.index t = ![0, 0] ∧ win7_1.index t = ![0, 0] ∧ win7_2.index t = ![0, 0]
    ∧ win7_3.index t = ![0, 0] ∧ win7_4.index t = ![t.val, 0] ∧ (grid7.coords t 0).val = t.val :=
  (by decide +kernel : ∀ t : Fin grid7.N, _)

/-- The network's result from the second layer's output. -/
theorem arr7 (c : Dev nD) : (dat7 V c).arrAt 4 cfg7.N
    = (fun i => max ((∑ q : Fin 64, groupMax (V c main_v90 : Mat 10000 64) (V c main_v91) (BitVec.ofNat 32 (i 0).val) q
        * (V c main_arg11 : Mat 64 64) (ix2 q (i 1))) + (V c main_v93 : Mat 8 64) (ix2 ⟨(i 0).val % 8, Nat.mod_lt _ (by decide)⟩ (i 1)))
        (Ideal.ofBits .f32 0x00000000#32) : Mat 256 64) := by
  refine (dat7 V c).arrAt_eq_of_covers 4 _ (by decide +kernel) fun t hf y => ?_
  obtain ⟨e0, e1, e2, e3, e4, e5⟩ := idx7 t
  have b0 : iblk7 V c 0 t = V c main_v90 := funext fun z => by blk_point [iblk7, e0]
  have b1 : iblk7 V c 1 t = V c main_v91 := funext fun z => by blk_point [iblk7, e1]
  blk_simp
  rw [after7_4]
  frame_out
  rw [pay7, b0, b1, e5]
  beta_reduce
  have hy : (y 0).val < 8 := (y 0).isLt
  have hg : win7_4.index t 0 * 8 + (y 0).val = t.val * 8 + (y 0).val := by rw [e4]; rfl
  refine congrArg₂ (max : EReal → EReal → EReal)
    (congrArg₂ (HAdd.hAdd : EReal → EReal → EReal)
      (Finset.sum_congr rfl fun q _ => congrArg₂ (HMul.hMul : EReal → EReal → EReal) ?_ ?_) ?_) rfl
  · rw [hg]
  · blk_point [iblk7, e2, e4]
  · blk_point [iblk7, e3, e4]

end Cert.KernelIdeal.Gat

end
-- ==== Proof.KernValue.lean ====
/- The contents of the kernel's arrays, step by step, from the launch to the result: each is a stage of the network at the arguments. -/
module

public import proofs.«01_k».proof.Proof.HostReads
public import proofs.«01_k».proof.Proof.Proj1
public import proofs.«01_k».proof.Proof.EdgeEx
public import proofs.«01_k».proof.Proof.EdgeMsg
public import proofs.«01_k».proof.Proof.Proj2
public import proofs.«01_k».proof.Proof.Pool

@[expose] public section

set_option maxRecDepth 16384

noncomputable section

namespace Cert.KernelIdeal.Gat

open Idealize.ShloMosaic Idealize.ShloMosaic.TcCoe Idealize.ShloMosaic.Tactic Idealize.SL.Sem
open Cert.KernelIdeal Cert.KernelIdeal.Gen Cert.Gat

variable (m : (ℓ : Loc nD τ sig) → Buf (Elt Ideal) ℓ) (ρ : Dev nD → PrngReg) (c : Dev nD)

/-- The source of every edge, and the target. -/
abbrev src : Fin 170000 → Fin 10000 := endpoint (m ((c : Thread nD τ).loc main_arg1)) 0
abbrev dst : Fin 170000 → Fin 10000 := endpoint (m ((c : Thread nD τ).loc main_arg1)) 1

/-- The first layer's features, attention vectors, edge weights and sums. -/
abbrev feat1 : Mat 10000 640 := mm (m ((c : Thread nD τ).loc main_arg0) : Mat 10000 78) (m ((c : Thread nD τ).loc main_arg3) : Mat 78 640)
abbrev score1s : Mat 10000 10 := score (H := 10) (C := 64) rfl (feat1 m c) (m ((c : Thread nD τ).loc main_arg4))
abbrev score1d : Mat 10000 10 := score (H := 10) (C := 64) rfl (feat1 m c) (m ((c : Thread nD τ).loc main_arg5))
abbrev ex1 : Mat 170000 10 := edgeEx (takeRows (src m c) (score1s m c)) (takeRows (dst m c) (score1d m c))
abbrev lay1 : Mat 10000 640 := layer (H := 10) (C := 64) rfl (src m c) (dst m c) (feat1 m c) (m ((c : Thread nD τ).loc main_arg4))
  (m ((c : Thread nD τ).loc main_arg5))

/-- The two edge lists stay in their buffers from the first host operations on. -/
abbrev edgeRefs : List (Ref sig .tc) := [main_v3, main_v6]

def Kept (k : Valuation τ sig (Elt Ideal)) : Prop := ∀ r ∈ edgeRefs, k (Proc.devRef .tc r) = W1 m ρ c (Proc.devRef .tc r)

variable {m ρ c} in
/-- A step that changes no buffer outside those it writes keeps the edge lists, which it does not write. -/
theorem Kept.step {k k' : Valuation τ sig (Elt Ideal)} {free : Ref sig .tc → Prop} [∀ r, Decidable (free r)] (h : Kept m ρ c k)
    (hs : ∀ r, free r → k' (Proc.devRef .tc r) = k (Proc.devRef .tc r)) (hf : edgeRefs.all (fun r => decide (free r)) = true) : Kept m ρ c k' :=
  fun r hr => (hs r (of_decide_eq_true (List.all_eq_true.mp hf r hr))).trans (h r hr)

theorem kept2 : Kept m ρ c (W2 m ρ c) := Kept.step (k := W1 m ρ c) (fun _ _ => rfl) (W2_of m ρ c) (by decide +kernel)
theorem kept3 : Kept m ρ c (W3 m ρ c) := (kept2 m ρ c).step (W3_of m ρ c) (by decide +kernel)
theorem kept4 : Kept m ρ c (W4 m ρ c) := (kept3 m ρ c).step (W4_of m ρ c) (by decide +kernel)
theorem kept5 : Kept m ρ c (W5 m ρ c) := (kept4 m ρ c).step (W5_of m ρ c) (by decide +kernel)
theorem kept6 : Kept m ρ c (W6 m ρ c) := (kept5 m ρ c).step (W6_of m ρ c) (by decide +kernel)
theorem kept7 : Kept m ρ c (W7 m ρ c) := (kept6 m ρ c).step (W7_of m ρ c) (by decide +kernel)
theorem kept8 : Kept m ρ c (W8 m ρ c) := (kept7 m ρ c).step (W8_of m ρ c) (by decide +kernel)
theorem kept9 : Kept m ρ c (W9 m ρ c) := (kept8 m ρ c).step (W9_of m ρ c) (by decide +kernel)
theorem kept10 : Kept m ρ c (W10 m ρ c) := (kept9 m ρ c).step (W10_of m ρ c) (by decide +kernel)
theorem kept11 : Kept m ρ c (W11 m ρ c) := (kept10 m ρ c).step (W11_of m ρ c) (by decide +kernel)
theorem kept12 : Kept m ρ c (W12 m ρ c) := (kept11 m ρ c).step (W12_of m ρ c) (by decide +kernel)
theorem kept13 : Kept m ρ c (W13 m ρ c) := (kept12 m ρ c).step (W13_of m ρ c) (by decide +kernel)
theorem kept14 : Kept m ρ c (W14 m ρ c) := (kept13 m ρ c).step (W14_of m ρ c) (by decide +kernel)
theorem kept15 : Kept m ρ c (W15 m ρ c) := (kept14 m ρ c).step (W15_of m ρ c) (by decide +kernel)
theorem kept16 : Kept m ρ c (W16 m ρ c) := (kept15 m ρ c).step (W16_of m ρ c) (by decide +kernel)
theorem kept17 : Kept m ρ c (W17 m ρ c) := (kept16 m ρ c).step (W17_of m ρ c) (by decide +kernel)
theorem kept18 : Kept m ρ c (W18 m ρ c) := (kept17 m ρ c).step (W18_of m ρ c) (by decide +kernel)

variable (he : InRange (m ((c : Thread nD τ).loc main_arg1)))

include he

theorem src_at (k : Valuation τ sig (Elt Ideal)) (h : k (Proc.devRef .tc main_v3) = W1 m ρ c (Proc.devRef .tc main_v3)) (j : Fin 170000) :
    (k (Proc.devRef .tc main_v3) : IVec S170000 32) (ix1 j) = BitVec.ofNat 32 (src m c j).val :=
  (congrFun h (ix1 j)).trans (read_v3 (W0 m ρ c) he j)

theorem dst_at (k : Valuation τ sig (Elt Ideal)) (h : k (Proc.devRef .tc main_v6) = W1 m ρ c (Proc.devRef .tc main_v6)) (j : Fin 170000) :
    (k (Proc.devRef .tc main_v6) : IVec S170000 32) (ix1 j) = BitVec.ofNat 32 (dst m c j).val :=
  (congrFun h (ix1 j)).trans (read_v6 (W0 m ρ c) he j)

omit he

/-- The first layer's projected features and scores. -/
theorem at_v36_0 : W2 m ρ c (Proc.devRef .tc main_v36_0) = feat1 m c :=
  (W2_arr m ρ c 5).trans ((arr0_h (V1 m ρ) c).trans
    (congrArg₂ (mm : Mat 10000 78 → Mat 78 640 → Mat 10000 640) (W1_args m ρ c main_arg0 (by decide)) (W1_args m ρ c main_arg3 (by decide))))

theorem at_v36_1 : W2 m ρ c (Proc.devRef .tc main_v36_1) = score1s m c :=
  (W2_arr m ρ c 6).trans ((arr0_s (V1 m ρ) c).trans ((congrArg₂ (mm : Mat 10000 640 → Mat 640 10 → Mat 10000 10)
    (congrArg₂ (mm : Mat 10000 78 → Mat 78 640 → Mat 10000 640) (W1_args m ρ c main_arg0 (by decide)) (W1_args m ρ c main_arg3 (by decide)))
    (read_v19 (W0 m ρ c))).trans (mm_attMat rfl (feat1 m c) (m ((c : Thread nD τ).loc main_arg4)))))

theorem at_v36_2 : W2 m ρ c (Proc.devRef .tc main_v36_2) = score1d m c :=
  (W2_arr m ρ c 7).trans ((arr0_d (V1 m ρ) c).trans ((congrArg₂ (mm : Mat 10000 640 → Mat 640 10 → Mat 10000 10)
    (congrArg₂ (mm : Mat 10000 78 → Mat 78 640 → Mat 10000 640) (W1_args m ρ c main_arg0 (by decide)) (W1_args m ρ c main_arg3 (by decide)))
    (read_v32 (W0 m ρ c))).trans (mm_attMat rfl (feat1 m c) (m ((c : Thread nD τ).loc main_arg5)))))

include he

theorem at_v37 : W3 m ρ c (Proc.devRef .tc main_v37) = takeRows (src m c) (score1s m c) :=
  (read_v37 (W2 m ρ c) (src m c) (src_at m ρ c he _ (kept2 m ρ c main_v3 (by decide)))).trans
    (congrArg ((takeRows : (Fin 170000 → Fin 10000) → Mat 10000 10 → Mat 170000 10) (src m c)) (at_v36_1 m ρ c))

theorem at_v38 : W4 m ρ c (Proc.devRef .tc main_v38) = takeRows (dst m c) (score1d m c) :=
  (read_v38 (W3 m ρ c) (dst m c) (dst_at m ρ c he _ (kept3 m ρ c main_v6 (by decide)))).trans
    (congrArg ((takeRows : (Fin 170000 → Fin 10000) → Mat 10000 10 → Mat 170000 10) (dst m c)) ((W3_of m ρ c main_v36_2 (by decide)).trans (at_v36_2 m ρ c)))

theorem at_v39 : W5 m ρ c (Proc.devRef .tc main_v39) = ex1 m c :=
  (W5_arr m ρ c 2).trans ((arr1 (V4 m ρ) c).trans (congrArg₂ (edgeEx : Mat 170000 10 → Mat 170000 10 → Mat 170000 10)
    ((W4_of m ρ c main_v37 (by decide)).trans (at_v37 m ρ c he)) (at_v38 m ρ c he)))

theorem at_v42 : W6 m ρ c (Proc.devRef .tc main_v42) = segSum (dst m c) (ex1 m c) :=
  (read_v42 (W5 m ρ c) (dst m c) (dst_at m ρ c he _ (kept5 m ρ c main_v6 (by decide)))).trans
    (congrArg ((segSum : (Fin 170000 → Fin 10000) → Mat 170000 10 → Mat 10000 10) (dst m c)) (at_v39 m ρ c he))

theorem at_v43 : W7 m ρ c (Proc.devRef .tc main_v43) = takeRows (src m c) (feat1 m c) :=
  (read_v43 (W6 m ρ c) (src m c) (src_at m ρ c he _ (kept6 m ρ c main_v3 (by decide)))).trans
    (congrArg ((takeRows : (Fin 170000 → Fin 10000) → Mat 10000 640 → Mat 170000 640) (src m c)) (((((W6_of m ρ c main_v36_0 (by decide)).trans (W5_of m ρ c main_v36_0 (by decide))).trans (W4_of m ρ c main_v36_0 (by decide))).trans (W3_of m ρ c main_v36_0 (by decide))).trans (at_v36_0 m ρ c)))

theorem at_v44 : W8 m ρ c (Proc.devRef .tc main_v44) = takeRows (dst m c) (segSum (dst m c) (ex1 m c)) :=
  (read_v44 (W7 m ρ c) (dst m c) (dst_at m ρ c he _ (kept7 m ρ c main_v6 (by decide)))).trans
    (congrArg ((takeRows : (Fin 170000 → Fin 10000) → Mat 10000 10 → Mat 170000 10) (dst m c)) ((W7_of m ρ c main_v42 (by decide)).trans (at_v42 m ρ c he)))

theorem at_v45 : W9 m ρ c (Proc.devRef .tc main_v45) = edgeMsg (H := 10) (C := 64) (W := 640) rfl (takeRows (src m c) (feat1 m c)) (ex1 m c)
    (takeRows (dst m c) (segSum (dst m c) (ex1 m c))) :=
  (W9_arr m ρ c 3).trans ((arr2 (V8 m ρ) c).trans (congr (congrArg₂
    (edgeMsg (H := 10) (C := 64) rfl : Mat 170000 640 → Mat 170000 10 → Mat 170000 10 → Mat 170000 640)
    ((W8_of m ρ c main_v43 (by decide)).trans (at_v43 m ρ c he)) ((((W8_of m ρ c main_v39 (by decide)).trans (W7_of m ρ c main_v39 (by decide))).trans (W6_of m ρ c main_v39 (by decide))).trans (at_v39 m ρ c he))) (at_v44 m ρ c he)))

/-- The first layer before its bias. -/
theorem at_v48 : W10 m ρ c (Proc.devRef .tc main_v48) = lay1 m c :=
  (read_v48 (W9 m ρ c) (dst m c) (dst_at m ρ c he _ (kept9 m ρ c main_v6 (by decide)))).trans
    (congrArg ((segSum : (Fin 170000 → Fin 10000) → Mat 170000 640 → Mat 10000 640) (dst m c)) (at_v45 m ρ c he))

omit he

theorem at_v60 : W10 m ρ c (Proc.devRef .tc main_v60) = attMat (H := 1) (C := 64) (W := 64) rfl (m ((c : Thread nD τ).loc main_arg8)) :=
  (read_v60 (W9 m ρ c)).trans (congrArg (attMat (H := 1) (C := 64) (W := 64) rfl) (W9_args m ρ c main_arg8 (by decide)))

theorem at_v72 : W10 m ρ c (Proc.devRef .tc main_v72) = attMat (H := 1) (C := 64) (W := 64) rfl (m ((c : Thread nD τ).loc main_arg9)) :=
  (read_v72 (W9 m ρ c)).trans (congrArg (attMat (H := 1) (C := 64) (W := 64) rfl) (W9_args m ρ c main_arg9 (by decide)))

theorem at_v74 : W10 m ρ c (Proc.devRef .tc main_v74) = (rows 8 (m ((c : Thread nD τ).loc main_arg6)) : Mat 8 640) := by
  refine funext fun (i : S8x640.Idx) => ?_
  obtain ⟨p, q, rfl⟩ : ∃ p q, i = ix2 p q := ⟨_, _, eq_ix2 i⟩
  exact (read_v74 (W9 m ρ c) p q).trans (congrFun (W9_args m ρ c main_arg6 (by decide)) (ix1 q))

/-- The second layer's features, scores, edge weights and sums. -/
abbrev feat2 : Mat 10000 64 := mm (biasElu (r := 8) (by decide) (lay1 m c) (rows 8 (m ((c : Thread nD τ).loc main_arg6))))
  (m ((c : Thread nD τ).loc main_arg7) : Mat 640 64)
abbrev score2s : Mat 10000 1 := score (H := 1) (C := 64) rfl (feat2 m c) (m ((c : Thread nD τ).loc main_arg8))
abbrev score2d : Mat 10000 1 := score (H := 1) (C := 64) rfl (feat2 m c) (m ((c : Thread nD τ).loc main_arg9))
abbrev ex2 : Mat 170000 1 := edgeEx (takeRows (src m c) (score2s m c)) (takeRows (dst m c) (score2d m c))
abbrev lay2 : Mat 10000 64 := layer (H := 1) (C := 64) rfl (src m c) (dst m c) (feat2 m c) (m ((c : Thread nD τ).loc main_arg8))
  (m ((c : Thread nD τ).loc main_arg9))

include he

theorem feat2_eq : (mm (biasElu (by decide) (V10 m ρ c main_v48 : Mat 10000 640) (V10 m ρ c main_v74 : Mat 8 640)) (V10 m ρ c main_arg7 : Mat 640 64)
    : Mat 10000 64) = feat2 m c :=
  (congrArg₂ (mm : Mat 10000 640 → Mat 640 64 → Mat 10000 64)
    (congrArg₂ (biasElu (r := 8) (by decide) : Mat 10000 640 → Mat 8 640 → Mat 10000 640) (at_v48 m ρ c he) (at_v74 m ρ c)) (W10_args m ρ c main_arg7 (by decide)))

/-- The second layer's projected features and scores. -/
theorem at_v75_0 : W11 m ρ c (Proc.devRef .tc main_v75_0) = feat2 m c :=
  (W11_arr m ρ c 5).trans ((arr3_h (V10 m ρ) c).trans (feat2_eq m ρ c he))

theorem at_v75_1 : W11 m ρ c (Proc.devRef .tc main_v75_1) = score2s m c := by
  refine (W11_arr m ρ c 6).trans ?_
  refine (arr3_s (V10 m ρ) c).trans ?_
  refine Eq.trans (congrArg₂ (mm : Mat 10000 64 → Mat 64 1 → Mat 10000 1) (feat2_eq m ρ c he) (at_v60 m ρ c)) ?_
  exact mm_attMat (H := 1) (C := 64) (W := 64) rfl (feat2 m c) (m ((c : Thread nD τ).loc main_arg8))

theorem at_v75_2 : W11 m ρ c (Proc.devRef .tc main_v75_2) = score2d m c := by
  refine (W11_arr m ρ c 7).trans ?_
  refine (arr3_d (V10 m ρ) c).trans ?_
  refine Eq.trans (congrArg₂ (mm : Mat 10000 64 → Mat 64 1 → Mat 10000 1) (feat2_eq m ρ c he) (at_v72 m ρ c)) ?_
  exact mm_attMat (H := 1) (C := 64) (W := 64) rfl (feat2 m c) (m ((c : Thread nD τ).loc main_arg9))

theorem at_v76 : W12 m ρ c (Proc.devRef .tc main_v76) = takeRows (src m c) (score2s m c) :=
  (read_v76 (W11 m ρ c) (src m c) (src_at m ρ c he _ (kept11 m ρ c main_v3 (by decide)))).trans
    (congrArg ((takeRows : (Fin 170000 → Fin 10000) → Mat 10000 1 → Mat 170000 1) (src m c)) (at_v75_1 m ρ c he))

theorem at_v77 : W13 m ρ c (Proc.devRef .tc main_v77) = takeRows (dst m c) (score2d m c) :=
  (read_v77 (W12 m ρ c) (dst m c) (dst_at m ρ c he _ (kept12 m ρ c main_v6 (by decide)))).trans
    (congrArg ((takeRows : (Fin 170000 → Fin 10000) → Mat 10000 1 → Mat 170000 1) (dst m c)) ((W12_of m ρ c main_v75_2 (by decide)).trans (at_v75_2 m ρ c he)))

theorem at_v78 : W14 m ρ c (Proc.devRef .tc main_v78) = ex2 m c :=
  (W14_arr m ρ c 2).trans ((arr4 (V13 m ρ) c).trans (congrArg₂ (edgeEx : Mat 170000 1 → Mat 170000 1 → Mat 170000 1)
    ((W13_of m ρ c main_v76 (by decide)).trans (at_v76 m ρ c he)) (at_v77 m ρ c he)))

theorem at_v81 : W15 m ρ c (Proc.devRef .tc main_v81) = segSum (dst m c) (ex2 m c) :=
  (read_v81 (W14 m ρ c) (dst m c) (dst_at m ρ c he _ (kept14 m ρ c main_v6 (by decide)))).trans
    (congrArg ((segSum : (Fin 170000 → Fin 10000) → Mat 170000 1 → Mat 10000 1) (dst m c)) (at_v78 m ρ c he))

theorem at_v82 : W16 m ρ c (Proc.devRef .tc main_v82) = takeRows (src m c) (feat2 m c) :=
  (read_v82 (W15 m ρ c) (src m c) (src_at m ρ c he _ (kept15 m ρ c main_v3 (by decide)))).trans
    (congrArg ((takeRows : (Fin 170000 → Fin 10000) → Mat 10000 64 → Mat 170000 64) (src m c)) (((((W15_of m ρ c main_v75_0 (by decide)).trans (W14_of m ρ c main_v75_0 (by decide))).trans (W13_of m ρ c main_v75_0 (by decide))).trans (W12_of m ρ c main_v75_0 (by decide))).trans (at_v75_0 m ρ c he)))

theorem at_v83 : W17 m ρ c (Proc.devRef .tc main_v83) = takeRows (dst m c) (segSum (dst m c) (ex2 m c)) :=
  (read_v83 (W16 m ρ c) (dst m c) (dst_at m ρ c he _ (kept16 m ρ c main_v6 (by decide)))).trans
    (congrArg ((takeRows : (Fin 170000 → Fin 10000) → Mat 10000 1 → Mat 170000 1) (dst m c)) ((W16_of m ρ c main_v81 (by decide)).trans (at_v81 m ρ c he)))

theorem at_v84 : W18 m ρ c (Proc.devRef .tc main_v84) = edgeMsg (H := 1) (C := 64) (W := 64) rfl (takeRows (src m c) (feat2 m c)) (ex2 m c)
    (takeRows (dst m c) (segSum (dst m c) (ex2 m c))) :=
  (W18_arr m ρ c 3).trans ((arr5 (V17 m ρ) c).trans (congr (congrArg₂
    (edgeMsg (H := 1) (C := 64) rfl : Mat 170000 64 → Mat 170000 1 → Mat 170000 1 → Mat 170000 64)
    ((W17_of m ρ c main_v82 (by decide)).trans (at_v82 m ρ c he)) ((((W17_of m ρ c main_v78 (by decide)).trans (W16_of m ρ c main_v78 (by decide))).trans (W15_of m ρ c main_v78 (by decide))).trans (at_v78 m ρ c he))) (at_v83 m ρ c he)))

/-- The second layer before its bias. -/
theorem at_v87 : W19 m ρ c (Proc.devRef .tc main_v87) = lay2 m c :=
  (read_v87 (W18 m ρ c) (dst m c) (dst_at m ρ c he _ (kept18 m ρ c main_v6 (by decide)))).trans
    (congrArg ((segSum : (Fin 170000 → Fin 10000) → Mat 170000 64 → Mat 10000 64) (dst m c)) (at_v84 m ρ c he))

omit he

theorem at_v89 : W19 m ρ c (Proc.devRef .tc main_v89) = (rows 8 (m ((c : Thread nD τ).loc main_arg10)) : Mat 8 64) := by
  refine funext fun (i : S8x64.Idx) => ?_
  obtain ⟨p, q, rfl⟩ : ∃ p q, i = ix2 p q := ⟨_, _, eq_ix2 i⟩
  exact (read_v89 (W18 m ρ c) p q).trans (congrFun (W18_args m ρ c main_arg10 (by decide)) (ix1 q))

theorem at_v93 : W21 m ρ c (Proc.devRef .tc main_v93) = (rows 8 (m ((c : Thread nD τ).loc main_arg12)) : Mat 8 64) := by
  refine funext fun (i : S8x64.Idx) => ?_
  obtain ⟨p, q, rfl⟩ : ∃ p q, i = ix2 p q := ⟨_, _, eq_ix2 i⟩
  exact (read_v93 (W20 m ρ c) p q).trans (congrFun (W20_args m ρ c main_arg12 (by decide)) (ix1 q))

theorem at_v91 : W21 m ρ c (Proc.devRef .tc main_v91) = (fun i => (m ((c : Thread nD τ).loc main_arg2) : IVec S10000 32) (ix1 (i 0)) : IVec S10000x1 32) := by
  refine funext fun (i : S10000x1.Idx) => ?_
  obtain ⟨p, q, rfl⟩ : ∃ p q, i = ix2 p q := ⟨_, _, eq_ix2 i⟩
  obtain rfl : q = 0 := Subsingleton.elim _ _
  exact (read_v91 (W20 m ρ c) p).trans (congrFun (W20_args m ρ c main_arg2 (by decide)) (ix1 p))

include he

theorem at_v90 : W20 m ρ c (Proc.devRef .tc main_v90) = (biasElu (r := 8) (by decide) (lay2 m c) (rows 8 (m ((c : Thread nD τ).loc main_arg10))) : Mat 10000 64) :=
  (W20_arr m ρ c 2).trans ((arr6 (V19 m ρ) c).trans
    (congrArg₂ (biasElu (r := 8) (by decide) : Mat 10000 64 → Mat 8 64 → Mat 10000 64) (at_v87 m ρ c he) (at_v89 m ρ c)))

/-- The kernel's result is the network at its arguments. -/
theorem at_v94 : W22 m ρ c (Proc.devRef .tc main_v94)
    = network (src m c) (dst m c) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W22_arr m ρ c 4).trans ((arr7 (V21 m ρ) c).trans ?_)
  have e90 : V21 m ρ c main_v90 = (biasElu (r := 8) (by decide) (lay2 m c) (rows 8 (m ((c : Thread nD τ).loc main_arg10))) : Mat 10000 64) :=
    (W21_of m ρ c main_v90 (by decide)).trans (at_v90 m ρ c he)
  have e91 : V21 m ρ c main_v91 = (fun i => (m ((c : Thread nD τ).loc main_arg2) : IVec S10000 32) (ix1 (i 0)) : IVec S10000x1 32) := at_v91 m ρ c
  have e93 : V21 m ρ c main_v93 = (rows 8 (m ((c : Thread nD τ).loc main_arg12)) : Mat 8 64) := at_v93 m ρ c
  have e11 : V21 m ρ c main_arg11 = m ((c : Thread nD τ).loc main_arg11) := W21_args m ρ c main_arg11 (by decide)
  rw [e90, e91, e93, e11]
  rfl

end Cert.KernelIdeal.Gat

end
-- ==== Proof.RefOps.lean ====
/- The reference's host operations of one attention layer, of the exponential linear unit and of the pooled last layer, as the pieces of
   the network. Nothing here names a program. -/
module

public import proofs.«01_k».proof.Proof.Take

@[expose] public section

noncomputable section

namespace Cert.Gat

open Idealize.ShloMosaic

/-- A coordinate read through a broadcast that keeps its axis. -/
theorem keep {n : Nat} (a : Fin n) : a.val = if n = 1 then 0 else a.val := by
  split
  · have := a.isLt
    omega
  · rfl

/-- Every column is the column of its head and its place within the head. -/
theorem col_headOf {H C W : Nat} (hW : W = H * C) (j : Fin W) : col hW (headOf hW j) (chanOf hW j) = j :=
  Fin.ext (Nat.div_add_mod' j.val C)

/-! ## The edge lists -/

/-- Two rows, each the node numbers in order. -/
theorem loops_apply (a b : IVec ⟨2, ![1, 10000]⟩ 32) (ha : ∀ j, a (ix2 0 j) = BitVec.ofNat 32 j.val)
    (hb : ∀ j, b (ix2 0 j) = BitVec.ofNat 32 j.val)
    (h : Shape.Concatenates [(⟨2, ![1, 10000]⟩ : Shape), ⟨2, ![1, 10000]⟩] ⟨2, ![2, 10000]⟩ 0) (r : Fin 2) (j : Fin 10000) :
    concatenate ⟨2, ![2, 10000]⟩ 0 [⟨⟨2, ![1, 10000]⟩, a⟩, ⟨⟨2, ![1, 10000]⟩, b⟩] h (ix2 r j) = BitVec.ofNat 32 j.val := by
  match r with
  | ⟨0, _⟩ =>
    exact (concatenate_pair_apply_left 0 a b h _ rfl (ix2 0 j) (fun q => by fin_cases q <;> rfl)).trans (ha j)
  | ⟨1, _⟩ =>
    exact (concatenate_pair_apply_right 0 a b h _ rfl rfl (ix2 0 j)
      (fun q hq => by fin_cases q; · exact absurd rfl hq
                      · rfl) rfl).trans (hb j)

/-- A row of the edge words joined with the self loops. -/
theorem joined_apply (e : EdgeWords) (he : InRange e) (l : IVec ⟨2, ![2, 10000]⟩ 32) (hl : ∀ r j, l (ix2 r j) = BitVec.ofNat 32 j.val)
    (h : Shape.Concatenates [(⟨2, ![2, 160000]⟩ : Shape), ⟨2, ![2, 10000]⟩] ⟨2, ![2, 170000]⟩ 1) (r : Fin 2) (j : Fin 170000) :
    concatenate ⟨2, ![2, 170000]⟩ 1 [⟨⟨2, ![2, 160000]⟩, e⟩, ⟨⟨2, ![2, 10000]⟩, l⟩] h (ix2 r j) = BitVec.ofNat 32 (endpoint e r j).val := by
  by_cases hj : j.val < 160000
  · exact (concatenate_pair_apply_left 1 e l h _ rfl (ix2 r ⟨j.val, hj⟩) (fun q => by fin_cases q <;> rfl)).trans
      (endpoint_edge e he r j hj)
  · refine (concatenate_pair_apply_right 1 e l h _ rfl rfl (ix2 r ⟨j.val - 160000, by have := j.isLt; omega⟩)
      (fun q hq => by fin_cases q; · rfl
                      · exact absurd rfl hq) ?_).trans ((hl _ _).trans (endpoint_loop e r j hj))
    show j.val - 160000 + 160000 = j.val
    omega

/-- A row cut out of a two-row array and flattened. -/
theorem row_apply (x : IVec ⟨2, ![2, 170000]⟩ 32) (r : Fin 2) (o : Nat) (ho : o = r.val)
    (hs : (⟨2, ![2, 170000]⟩ : Shape).Slices ![o, 0] ⟨2, ![1, 170000]⟩) (hc : (⟨2, ![1, 170000]⟩ : Shape).ShapeCasts ⟨1, ![170000]⟩)
    (j : Fin 170000) :
    shapeCast ⟨1, ![170000]⟩ (extractStridedSlice ⟨2, ![1, 170000]⟩ ![o, 0] x hs) hc (ix1 j) = x (ix2 r j) := by
  subst ho
  refine (shapeCast_apply _ hc (ix1 j) (ix2 (0 : Fin 1) j) ?_).trans ?_
  · rewrite [Shape.rowMajor_val_two, Shape.rowMajor_val_one]
    show 0 * 170000 + j.val = j.val
    omega
  · refine extractStridedSlice_apply _ x hs _ _ fun a => ?_
    fin_cases a
    · rfl
    · exact (Nat.zero_add _).symm

/-! ## One attention layer -/

section Layer

variable {H C W : Nat} (hW : W = H * C)

/-- A row of heads side by side as a slab of heads. -/
theorem slab_apply (X : Mat 10000 W) (hc : (⟨2, ![10000, W]⟩ : Shape).ShapeCasts ⟨3, ![10000, H, C]⟩)
    (n : Fin 10000) (k : Fin H) (c : Fin C) : shapeCast ⟨3, ![10000, H, C]⟩ X hc (ix3 n k c) = X (ix2 n (col hW k c)) := by
  refine shapeCast_apply X hc (ix3 n k c) (ix2 n (col hW k c)) ?_
  rewrite [Shape.rowMajor_val_two, Shape.rowMajor_val_three]
  show n.val * W + (k.val * C + c.val) = (n.val * H + k.val) * C + c.val
  subst hW
  ring

/-- And back. -/
theorem flat_apply (Y : (⟨3, ![10000, H, C]⟩ : Shape).Idx → EReal) (hc : (⟨3, ![10000, H, C]⟩ : Shape).ShapeCasts ⟨2, ![10000, W]⟩)
    (n : Fin 10000) (k : Fin H) (c : Fin C) : shapeCast ⟨2, ![10000, W]⟩ Y hc (ix2 n (col hW k c)) = Y (ix3 n k c) := by
  refine shapeCast_apply Y hc (ix2 n (col hW k c)) (ix3 n k c) ?_
  rewrite [Shape.rowMajor_val_two, Shape.rowMajor_val_three]
  show (n.val * H + k.val) * C + c.val = n.val * W + (k.val * C + c.val)
  subst hW
  ring

/-- The sum over a head's channels of the features times the attention vector is the score. -/
theorem score_eq (X : Mat 10000 W) (a : (⟨3, ![1, H, C]⟩ : Shape).Idx → EReal)
    (hc : (⟨2, ![10000, W]⟩ : Shape).ShapeCasts ⟨3, ![10000, H, C]⟩)
    (hb : (⟨3, ![1, H, C]⟩ : Shape).BroadcastsInDim ⟨3, ![10000, H, C]⟩ ![0, 1, 2])
    (hr : (⟨3, ![10000, H, C]⟩ : Shape).ReducesTo [2] ⟨2, ![10000, H]⟩) (hr' : (⟨3, ![10000, H, C]⟩ : Shape).Reduces [2] ⟨2, ![10000, H]⟩)
    (hp : 0 < (⟨0, ![]⟩ : Shape).numel) :
    Host.reduceAdd (F := Ideal) (φ := .f32)
      (mulf (F := Ideal) (φ := .f32) (shapeCast ⟨3, ![10000, H, C]⟩ X hc) (broadcastInDim ⟨3, ![10000, H, C]⟩ ![0, 1, 2] hb a))
      (constant ⟨0, ![]⟩ .f32 0x00000000#32) hr hp = score hW X a := by
  funext i
  obtain ⟨n, k, rfl⟩ : ∃ n k, i = ix2 n k := ⟨_, _, eq_ix2 i⟩
  simp only [Host.reduceAdd, Ideal.hostReduceAdd_def]
  rw [Ideal.hostReduceAdd_single hr hr']
  refine (congrArg (· + _) Ideal.ofBits_zero_f32).trans ((zero_add _).trans (Finset.sum_congr rfl fun (c : Fin C) _ => ?_))
  have el : hr'.lift (ix2 n k) c = ix3 n k c := funext fun q => Fin.ext (by
    match q with | ⟨0, _⟩ => rfl | ⟨1, _⟩ => rfl | ⟨2, _⟩ => rfl)
  rw [el]
  refine congrArg₂ (HMul.hMul : EReal → EReal → EReal) (slab_apply hW X hc n k c) ?_
  exact broadcastInDim_apply _ hb a _ (ix3 0 k c) fun q => by
    match q with
    | ⟨0, _⟩ => exact (if_pos rfl).symm
    | ⟨1, _⟩ => exact keep k
    | ⟨2, _⟩ => exact keep c

variable (S D : Fin 170000 → Fin 10000) (ws wd : IVec ⟨1, ![170000]⟩ 32)
  (hs : ∀ j, ws (ix1 j) = BitVec.ofNat 32 (S j).val) (hd : ∀ j, wd (ix1 j) = BitVec.ofNat 32 (D j).val)
  (h0 : (⟨0, ![]⟩ : Shape).BroadcastsInDim ⟨1, ![170000]⟩ ![]) (h1 : (⟨1, ![170000]⟩ : Shape).BroadcastsInDim ⟨2, ![170000, 1]⟩ ![0])

include hs in
/-- A gather of rows at wrapped node numbers reads those rows. -/
theorem gather_rows (d : GatherDims ⟨2, ![10000, H]⟩ ⟨2, ![170000, 1]⟩ ⟨2, ![170000, H]⟩) (hoff : d.offsetDims = [1])
    (hcoll : d.collapsedSliceDims = [0]) (hob : d.operandBatchingDims = []) (hsim : d.startIndexMap = [0]) (hivd : d.indexVectorDim = 1)
    (x : Mat 10000 H) : Host.gather d x (takeCol ws h0 h1) = takeRows S x := by
  funext i
  rw [eq_ix2 i]
  exact Routing.gather_row d hoff hcoll hob hsim hivd x _ (i 0) (i 1) (S (i 0)) (takeCol_apply ws S hs h0 h1 (i 0)) (by omega)

/-- The exponential of the leaky rectifier of a sum of two arrays. -/
theorem edgeEx_eq {u v A B : Mat 170000 H} (hu : u = A) (hv : v = B) (hz hz' : (⟨0, ![]⟩ : Shape).BroadcastsInDim ⟨2, ![170000, H]⟩ ![]) :
    Host.exp (F := Ideal) (φ := .f32) (select
      (cmpf (F := Ideal) (φ := .f32) .oge (addf (F := Ideal) (φ := .f32) u v) (broadcastInDim ⟨2, ![170000, H]⟩ ![] hz (constant ⟨0, ![]⟩ .f32 0x00000000#32)))
      (addf (F := Ideal) (φ := .f32) u v)
      (mulf (F := Ideal) (φ := .f32) (broadcastInDim ⟨2, ![170000, H]⟩ ![] hz' (id (constant ⟨0, ![]⟩ .f32 0x3E4CCCCD#32))) (addf (F := Ideal) (φ := .f32) u v)))
      = edgeEx A B := by
  subst hu hv
  rfl

include hs hd in
/-- The weighted feature slabs, summed into their targets. -/
theorem slabs_eq (X : Mat 10000 W) (f : Mat 170000 H)
    (hc : (⟨2, ![10000, W]⟩ : Shape).ShapeCasts ⟨3, ![10000, H, C]⟩) (hc' : (⟨3, ![10000, H, C]⟩ : Shape).ShapeCasts ⟨2, ![10000, W]⟩)
    (wg : GatherDims.WF ⟨3, ![10000, H, C]⟩ ⟨2, ![170000, 1]⟩ ⟨3, ![170000, H, C]⟩ [1, 2] [0] [] [0] [] 1 ![1, H, C])
    (wf : ScatterDims.WF ⟨3, ![10000, H, C]⟩ ⟨2, ![170000, 1]⟩ ⟨3, ![170000, H, C]⟩ [1, 2] [0] [0] 1)
    (hz : (⟨0, ![]⟩ : Shape).BroadcastsInDim ⟨3, ![10000, H, C]⟩ ![])
    (hb : (⟨2, ![170000, H]⟩ : Shape).BroadcastsInDim ⟨3, ![170000, H, 1]⟩ ![0, 1])
    (hb' : (⟨3, ![170000, H, 1]⟩ : Shape).BroadcastsInDim ⟨3, ![170000, H, C]⟩ ![0, 1, 2]) :
    shapeCast ⟨2, ![10000, W]⟩ (Host.scatterAdd (F := Ideal) (φ := .f32) (slabScatter 10000 H C 170000 wf)
      (broadcastInDim ⟨3, ![10000, H, C]⟩ ![] hz (constant ⟨0, ![]⟩ .f32 0x00000000#32)) (broadcastInDim ⟨2, ![170000, 1]⟩ ![0] h1 wd)
      (mulf (F := Ideal) (φ := .f32)
        (Host.gather (slabGather 10000 H C 170000 wg) (shapeCast ⟨3, ![10000, H, C]⟩ X hc) (takeCol ws h0 h1))
        (broadcastInDim ⟨3, ![170000, H, C]⟩ ![0, 1, 2] hb' (broadcastInDim ⟨3, ![170000, H, 1]⟩ ![0, 1] hb f)))) hc'
      = segSum D (fun (i : (⟨2, ![170000, W]⟩ : Shape).Idx) => X (ix2 (S (i 0)) (i 1)) * f (ix2 (i 0) (headOf hW (i 1)))) := by
  funext i
  obtain ⟨n, k, c, rfl⟩ : ∃ n k c, i = ix2 n (col hW k c) :=
    ⟨i 0, headOf hW (i 1), chanOf hW (i 1), (eq_ix2 i).trans (congrArg (ix2 (i 0)) (col_headOf hW (i 1)).symm)⟩
  refine (flat_apply hW _ hc' n k c).trans ((scatterAdd_slab wf _ _ _ D (fun e => ?_) (by decide) n k c).trans ?_)
  · refine Eq.trans ?_ (hd e)
    pointwise
  · unfold segSum into
    refine (congrArg (· + _) Ideal.ofBits_zero_f32).trans ((zero_add _).trans (Finset.sum_congr rfl fun e _ => ?_))
    refine congrArg₂ (HMul.hMul : EReal → EReal → EReal) ?_ ?_
    · exact (gather_slab wg _ _ e k c (S e) (takeCol_apply ws S hs h0 h1 e) (by decide)).trans (slab_apply hW X hc (S e) k c)
    · refine (broadcastInDim_apply _ hb' _ _ (ix3 e k (0 : Fin 1)) fun q => ?_).trans
        ((broadcastInDim_apply _ hb f _ (ix2 e k) fun q => ?_).trans
          (congrArg (fun q => f (ix2 e q)) (headOf_col hW k c).symm))
      · match q with
        | ⟨0, _⟩ => exact keep e
        | ⟨1, _⟩ => exact keep k
        | ⟨2, _⟩ => exact (if_pos rfl).symm
      · match q with
        | ⟨0, _⟩ => exact keep e
        | ⟨1, _⟩ => exact keep k

end Layer

/-! ## The exponential linear unit and the pooled last layer -/

/-- The unit whose exponential is taken of the input only where it is not positive. -/
theorem elu_guarded (v : EReal) :
    Scalar.select (FloatOps.cmpf (F := Ideal) (φ := .f32) .ogt v (Ideal.ofBits .f32 0x00000000#32)) v
      (Ideal.ofBits .f32 0x3F800000#32 * (FloatOps.hostUnary (F := Ideal) (φ := .f32) .expm1
        (Scalar.select (FloatOps.cmpf (F := Ideal) (φ := .f32) .ogt v (Ideal.ofBits .f32 0x00000000#32))
          (Ideal.ofBits .f32 0x00000000#32) v))) = elu v := by
  unfold elu
  have h1 : Ideal.ofBits .f32 0x3F800000#32 = 1 := Ideal.ofBits_one_f32
  rw [h1, one_mul]
  generalize FloatOps.cmpf (F := Ideal) (φ := .f32) .ogt v (Ideal.ofBits .f32 0x00000000#32) = b
  by_cases hb : b = 1#1
  · subst hb; rfl
  · have hb' : ¬b = 1 := hb
    unfold Scalar.select
    rw [if_neg hb', if_neg hb', if_neg hb']
    rfl

theorem biasElu_eq {n m r : Nat} (hr : 0 < r) {x A : Mat n m} (hx : x = A) (b : (⟨1, ![m]⟩ : Shape).Idx → EReal)
    (h1 : (⟨1, ![m]⟩ : Shape).BroadcastsInDim ⟨2, ![1, m]⟩ ![1]) (h2 : (⟨2, ![1, m]⟩ : Shape).BroadcastsInDim ⟨2, ![n, m]⟩ ![0, 1])
    (z : Mat n m) (hz : z = addf (F := Ideal) (φ := .f32) x (broadcastInDim ⟨2, ![n, m]⟩ ![0, 1] h2 (broadcastInDim ⟨2, ![1, m]⟩ ![1] h1 b)))
    (w : Mat n m) (hw : ∀ i, w i = elu (z i)) : w = biasElu hr A (rows r b) := by
  subst hx hz
  funext i
  refine (hw i).trans (congrArg (fun q => elu (x i + q)) ?_)
  refine (broadcastInDim_apply _ h2 _ _ (ix2 (0 : Fin 1) (i 1)) fun q => ?_).trans
    (broadcastInDim_apply _ h1 b _ (ix1 (i 1)) fun q => ?_)
  · match q with
    | ⟨0, _⟩ => exact (if_pos rfl).symm
    | ⟨1, _⟩ => exact keep (i 1)
  · match q with
    | ⟨0, _⟩ => exact keep (i 1)

/-- The maximum, over the rows, of an array kept where the row's group word is the group's and set to the least value elsewhere. -/
theorem groupMax_eq (z : Mat 10000 64) (b : IVec ⟨1, ![10000]⟩ 32)
    (h1 : (⟨1, ![10000]⟩ : Shape).BroadcastsInDim ⟨2, ![10000, 1]⟩ ![0])
    (h2 : (⟨2, ![10000, 1]⟩ : Shape).BroadcastsInDim ⟨2, ![10000, 256]⟩ ![0, 1])
    (h3 : (⟨1, ![256]⟩ : Shape).BroadcastsInDim ⟨2, ![1, 256]⟩ ![1])
    (h4 : (⟨2, ![1, 256]⟩ : Shape).BroadcastsInDim ⟨2, ![10000, 256]⟩ ![0, 1])
    (h5 : (⟨2, ![10000, 256]⟩ : Shape).BroadcastsInDim ⟨3, ![10000, 256, 1]⟩ ![0, 1])
    (h6 : (⟨3, ![10000, 256, 1]⟩ : Shape).BroadcastsInDim ⟨3, ![10000, 256, 64]⟩ ![0, 1, 2])
    (h7 : (⟨2, ![10000, 64]⟩ : Shape).BroadcastsInDim ⟨3, ![10000, 1, 64]⟩ ![0, 2])
    (h8 : (⟨3, ![10000, 1, 64]⟩ : Shape).BroadcastsInDim ⟨3, ![10000, 256, 64]⟩ ![0, 1, 2])
    (h9 : (⟨0, ![]⟩ : Shape).BroadcastsInDim ⟨3, ![10000, 256, 64]⟩ ![])
    (hr : (⟨3, ![10000, 256, 64]⟩ : Shape).ReducesTo [0] ⟨2, ![256, 64]⟩) (hr' : (⟨3, ![10000, 256, 64]⟩ : Shape).Reduces [0] ⟨2, ![256, 64]⟩)
    (hp : 0 < (⟨0, ![]⟩ : Shape).numel) (g : Fin 256) (c : Fin 64) :
    Host.reduce (FloatOps.maximumf (F := Ideal) (φ := .f32))
      (select (broadcastInDim ⟨3, ![10000, 256, 64]⟩ ![0, 1, 2] h6 (broadcastInDim ⟨3, ![10000, 256, 1]⟩ ![0, 1] h5
          (cmpi .eq (broadcastInDim ⟨2, ![10000, 256]⟩ ![0, 1] h2 (broadcastInDim ⟨2, ![10000, 1]⟩ ![0] h1 b))
            (broadcastInDim ⟨2, ![10000, 256]⟩ ![0, 1] h4 (broadcastInDim ⟨2, ![1, 256]⟩ ![1] h3 (iotaInDim ⟨1, ![256]⟩ 32 0))))))
        (broadcastInDim ⟨3, ![10000, 256, 64]⟩ ![0, 1, 2] h8 (broadcastInDim ⟨3, ![10000, 1, 64]⟩ ![0, 2] h7 z))
        (broadcastInDim ⟨3, ![10000, 256, 64]⟩ ![] h9 (id (constant (F := Ideal) ⟨0, ![]⟩ .f32 0xFF800000#32))))
      (constant (F := Ideal) ⟨0, ![]⟩ .f32 0xFF800000#32) hr hp (ix2 g c)
      = groupMax z (fun i => b (ix1 (i 0))) (BitVec.ofNat 32 g.val) c := by
  rw [Host.reduce_eq_fold_single _ _ _ hr hr']
  unfold groupMax
  refine Finset.fold_congr fun (r : Fin 10000) _ => ?_
  have el : hr'.lift (ix2 g c) r = ix3 r g c := funext fun q => Fin.ext (by
    match q with | ⟨0, _⟩ => rfl | ⟨1, _⟩ => rfl | ⟨2, _⟩ => rfl)
  refine (congrArg (select _ _ _) el).trans ?_
  pointwise
  rfl

end Cert.Gat

end
-- ==== Proof.RefValue.lean ====
/- The reference's value: each of its arrays is a stage of the network at the arguments. -/
module

public import proofs.«01_k».proof.Proof.RefOps
public import proofs.«01_k».proof.Proof.Gen.ReferenceIdeal.Read

@[expose] public section

set_option maxRecDepth 16384

noncomputable section

namespace Cert.ReferenceIdeal.Gat

open Idealize.ShloMosaic Idealize.ShloMosaic.TcCoe
open Cert.ReferenceIdeal Cert.ReferenceIdeal.Gen Cert.ReferenceIdeal.Read Cert.Gat

variable (x0 : Mat 10000 78) (x1 : EdgeWords) (x2 : IVec S10000 32) (x3 : Mat 78 640) (x4 x5 : Vec Ideal S1x10x64 .f32)
  (x6 : Vec Ideal S640 .f32) (x7 : Mat 640 64) (x8 x9 : Vec Ideal S1x1x64 .f32) (x10 : Vec Ideal S64 .f32) (x11 : Mat 64 64)
  (x12 : Vec Ideal S64 .f32) (he : InRange x1)

/-- The features of a layer. -/
abbrev feat1 : Mat 10000 640 := val_main_v9 (F := Ideal) x0 x3
abbrev feat2 : Mat 10000 64 := val_main_v74 (F := Ideal) x0 x1 x3 x4 x5 x6 x7

theorem feat1_eq : feat1 x0 x3 = mm x0 x3 := by
  refine funext fun i => (val_main_v9_apply x0 x3 i).trans (Finset.sum_congr rfl fun k _ => ?_)
  exact congrArg₂ (HMul.hMul : EReal → EReal → EReal)
    (congrArg x0 (funext fun a => by match a with | ⟨0, _⟩ => rfl | ⟨1, _⟩ => rfl))
    (congrArg x3 (funext fun a => by match a with | ⟨0, _⟩ => rfl | ⟨1, _⟩ => rfl))

theorem feat2_eq : feat2 x0 x1 x3 x4 x5 x6 x7 = mm (val_main_v64 (F := Ideal) x0 x1 x3 x4 x5 x6) x7 := by
  refine funext fun i => (val_main_v74_apply x0 x1 x3 x4 x5 x6 x7 i).trans (Finset.sum_congr rfl fun k _ => ?_)
  exact congrArg₂ (HMul.hMul : EReal → EReal → EReal)
    (congrArg (val_main_v64 (F := Ideal) x0 x1 x3 x4 x5 x6) (funext fun a => by match a with | ⟨0, _⟩ => rfl | ⟨1, _⟩ => rfl))
    (congrArg x7 (funext fun a => by match a with | ⟨0, _⟩ => rfl | ⟨1, _⟩ => rfl))

include he

/-- The edge lists, read from the joined words. -/
theorem src1_apply (j : Fin 170000) : val_main_v6 (F := Ideal) x1 (ix1 j) = BitVec.ofNat 32 (endpoint x1 0 j).val :=
  (row_apply _ 0 0 rfl slices_S2x170000_S1x170000_0_0 shapeCasts_S1x170000_S170000 j).trans
    (joined_apply x1 he _ (loops_apply _ _ (fun _ => rfl) (fun _ => rfl) _) _ 0 j)

theorem dst1_apply (j : Fin 170000) : val_main_v8 (F := Ideal) x1 (ix1 j) = BitVec.ofNat 32 (endpoint x1 1 j).val :=
  (row_apply _ 1 1 rfl slices_S2x170000_S1x170000_1_0 shapeCasts_S1x170000_S170000 j).trans
    (joined_apply x1 he _ (loops_apply _ _ (fun _ => rfl) (fun _ => rfl) _) _ 1 j)

/-- The second layer joins the same words again. -/
theorem src2_apply (j : Fin 170000) : val_main_v71 (F := Ideal) x1 (ix1 j) = BitVec.ofNat 32 (endpoint x1 0 j).val :=
  src1_apply x1 he j

theorem dst2_apply (j : Fin 170000) : val_main_v73 (F := Ideal) x1 (ix1 j) = BitVec.ofNat 32 (endpoint x1 1 j).val :=
  dst1_apply x1 he j

/-- The exponentials of the first layer's edges. -/
theorem ex1_eq : val_main_v33 (F := Ideal) x0 x1 x3 x4 x5
    = edgeEx (takeRows (endpoint x1 0) (score (H := 10) (C := 64) rfl (feat1 x0 x3) x4))
        (takeRows (endpoint x1 1) (score (H := 10) (C := 64) rfl (feat1 x0 x3) x5)) := by
  refine edgeEx_eq ?_ ?_ bcast_S_S170000x10 bcast_S_S170000x10
  · refine (gather_rows (endpoint x1 0) _ (src1_apply x1 he) _ _ _ rfl rfl rfl rfl rfl _).trans (congrArg (takeRows (endpoint x1 0)) ?_)
    exact score_eq (H := 10) (C := 64) rfl _ x4 _ _ _ (by decide) _
  · refine (gather_rows (endpoint x1 1) _ (dst1_apply x1 he) _ _ _ rfl rfl rfl rfl rfl _).trans (congrArg (takeRows (endpoint x1 1)) ?_)
    exact score_eq (H := 10) (C := 64) rfl _ x5 _ _ _ (by decide) _

/-- The first layer, before its bias. -/
theorem layer1_eq : val_main_v60 (F := Ideal) x0 x1 x3 x4 x5
    = layer (H := 10) (C := 64) rfl (endpoint x1 0) (endpoint x1 1) (feat1 x0 x3) x4 x5 := by
  have hsum : val_main_v36 (F := Ideal) x0 x1 x3 x4 x5 = segSum (endpoint x1 1) (val_main_v33 (F := Ideal) x0 x1 x3 x4 x5) :=
    segSum_eq _ _ (endpoint x1 1) (dst1_apply x1 he) _ _ _
  have hdn : val_main_v43 (F := Ideal) x0 x1 x3 x4 x5 = takeRows (endpoint x1 1) (segSum (endpoint x1 1) (val_main_v33 (F := Ideal) x0 x1 x3 x4 x5)) :=
    (gather_rows (endpoint x1 1) _ (dst1_apply x1 he) _ _ _ rfl rfl rfl rfl rfl _).trans (congrArg (takeRows (endpoint x1 1)) hsum)
  refine (slabs_eq (H := 10) (C := 64) rfl (endpoint x1 0) (endpoint x1 1) _ _ (src1_apply x1 he) (dst1_apply x1 he) _ _ (feat1 x0 x3)
    (val_main_v46 (F := Ideal) x0 x1 x3 x4 x5) _ _ _ _ _ _ _).trans ?_
  unfold layer
  rw [← ex1_eq x0 x1 x3 x4 x5 he, ← hdn]
  rfl

/-- The hidden nodes: the unit after the first layer and its bias. -/
theorem hidden_eq : val_main_v64 (F := Ideal) x0 x1 x3 x4 x5 x6
    = biasElu (r := 8) (by decide) (layer (H := 10) (C := 64) rfl (endpoint x1 0) (endpoint x1 1) (mm x0 x3) x4 x5) (rows 8 x6) := by
  refine biasElu_eq (r := 8) (by decide)
    ((layer1_eq x0 x1 x3 x4 x5 he).trans (congrArg (fun h => layer (H := 10) (C := 64) rfl (endpoint x1 0) (endpoint x1 1) h x4 x5) (feat1_eq x0 x3)))
    x6 bcast_S640_S1x640_1 bcast_S1x640_S10000x640_0_1 (val_main_v63 (F := Ideal) x0 x1 x3 x4 x5 x6) rfl _ fun i => ?_
  exact elu_guarded (val_main_v63 (F := Ideal) x0 x1 x3 x4 x5 x6 i)

/-- The exponentials of the second layer's edges. -/
theorem ex2_eq : val_main_v98 (F := Ideal) x0 x1 x3 x4 x5 x6 x7 x8 x9
    = edgeEx (takeRows (endpoint x1 0) (score (H := 1) (C := 64) rfl (feat2 x0 x1 x3 x4 x5 x6 x7) x8))
        (takeRows (endpoint x1 1) (score (H := 1) (C := 64) rfl (feat2 x0 x1 x3 x4 x5 x6 x7) x9)) := by
  refine edgeEx_eq ?_ ?_ bcast_S_S170000x1 bcast_S_S170000x1
  · refine (gather_rows (endpoint x1 0) _ (src2_apply x1 he) _ _ _ rfl rfl rfl rfl rfl _).trans (congrArg (takeRows (endpoint x1 0)) ?_)
    exact score_eq (H := 1) (C := 64) rfl _ x8 _ _ _ (by decide) _
  · refine (gather_rows (endpoint x1 1) _ (dst2_apply x1 he) _ _ _ rfl rfl rfl rfl rfl _).trans (congrArg (takeRows (endpoint x1 1)) ?_)
    exact score_eq (H := 1) (C := 64) rfl _ x9 _ _ _ (by decide) _

/-- The second layer, before its bias. -/
theorem layer2_eq : val_main_v125 (F := Ideal) x0 x1 x3 x4 x5 x6 x7 x8 x9
    = layer (H := 1) (C := 64) rfl (endpoint x1 0) (endpoint x1 1) (feat2 x0 x1 x3 x4 x5 x6 x7) x8 x9 := by
  have hsum : val_main_v101 (F := Ideal) x0 x1 x3 x4 x5 x6 x7 x8 x9 = segSum (endpoint x1 1) (val_main_v98 (F := Ideal) x0 x1 x3 x4 x5 x6 x7 x8 x9) :=
    segSum_eq _ _ (endpoint x1 1) (dst2_apply x1 he) _ _ _
  have hdn : val_main_v108 (F := Ideal) x0 x1 x3 x4 x5 x6 x7 x8 x9 = takeRows (endpoint x1 1) (segSum (endpoint x1 1) (val_main_v98 (F := Ideal) x0 x1 x3 x4 x5 x6 x7 x8 x9)) :=
    (gather_rows (endpoint x1 1) _ (dst2_apply x1 he) _ _ _ rfl rfl rfl rfl rfl _).trans (congrArg (takeRows (endpoint x1 1)) hsum)
  refine (slabs_eq (H := 1) (C := 64) rfl (endpoint x1 0) (endpoint x1 1) _ _ (src2_apply x1 he) (dst2_apply x1 he) _ _ (feat2 x0 x1 x3 x4 x5 x6 x7)
    (val_main_v111 (F := Ideal) x0 x1 x3 x4 x5 x6 x7 x8 x9) _ _ _ _ _ _ _).trans ?_
  unfold layer
  rw [← ex2_eq x0 x1 x3 x4 x5 x6 x7 x8 x9 he, ← hdn]
  rfl

/-- The nodes the pooling reads: the unit after the second layer and its bias. -/
theorem nodes_eq : val_main_v129 (F := Ideal) x0 x1 x3 x4 x5 x6 x7 x8 x9 x10
    = biasElu (r := 8) (by decide) (layer (H := 1) (C := 64) rfl (endpoint x1 0) (endpoint x1 1)
        (mm (biasElu (r := 8) (by decide) (layer (H := 10) (C := 64) rfl (endpoint x1 0) (endpoint x1 1) (mm x0 x3) x4 x5) (rows 8 x6)) x7)
        x8 x9) (rows 8 x10) := by
  refine biasElu_eq (r := 8) (by decide)
    ((layer2_eq x0 x1 x3 x4 x5 x6 x7 x8 x9 he).trans
      (congrArg (fun h => layer (H := 1) (C := 64) rfl (endpoint x1 0) (endpoint x1 1) h x8 x9)
        ((feat2_eq x0 x1 x3 x4 x5 x6 x7).trans (congrArg (fun h => mm h x7) (hidden_eq x0 x1 x3 x4 x5 x6 he)))))
    x10 bcast_S64_S1x64_1 bcast_S1x64_S10000x64_0_1 (val_main_v128 (F := Ideal) x0 x1 x3 x4 x5 x6 x7 x8 x9 x10) rfl _ fun i => ?_
  exact elu_guarded (val_main_v128 (F := Ideal) x0 x1 x3 x4 x5 x6 x7 x8 x9 x10 i)

end Cert.ReferenceIdeal.Gat

end
-- ==== Proof.RefPool.lean ====
/- The reference's pooled last layer, and its result as the network at the arguments. -/
module

public import proofs.«01_k».proof.Proof.RefValue

@[expose] public section

set_option maxRecDepth 16384

noncomputable section

namespace Cert.ReferenceIdeal.Gat

open Idealize.ShloMosaic Idealize.ShloMosaic.TcCoe
open Cert.ReferenceIdeal Cert.ReferenceIdeal.Gen Cert.ReferenceIdeal.Read Cert.Gat

variable (x0 : Mat 10000 78) (x1 : EdgeWords) (x2 : IVec S10000 32) (x3 : Mat 78 640) (x4 x5 : Vec Ideal S1x10x64 .f32)
  (x6 : Vec Ideal S640 .f32) (x7 : Mat 640 64) (x8 x9 : Vec Ideal S1x1x64 .f32) (x10 : Vec Ideal S64 .f32) (x11 : Mat 64 64)
  (x12 : Vec Ideal S64 .f32) (he : InRange x1)

/-- The greatest features of each group. -/
theorem groups_apply (g : Fin 256) (q : Fin 64) : val_main_v139 (F := Ideal) x0 x1 x2 x3 x4 x5 x6 x7 x8 x9 x10 (ix2 g q)
    = groupMax (val_main_v129 (F := Ideal) x0 x1 x3 x4 x5 x6 x7 x8 x9 x10) (fun (i : S10000x1.Idx) => x2 (ix1 (i 0))) (BitVec.ofNat 32 g.val) q := by
  unfold val_main_v139 val_main_v138 val_main_call4_v2 val_main_v137
  generalize val_main_v129 (F := Ideal) x0 x1 x3 x4 x5 x6 x7 x8 x9 x10 = z
  exact groupMax_eq z x2 _ _ _ _ _ _ _ _ _ _ (by decide) _ g q

/-- The product of the groups with the last matrix. -/
theorem last_apply (g : Fin 256) (p : Fin 64) : val_main_v140 (F := Ideal) x0 x1 x2 x3 x4 x5 x6 x7 x8 x9 x10 x11 (ix2 g p)
    = ∑ q : Fin 64, groupMax (val_main_v129 (F := Ideal) x0 x1 x3 x4 x5 x6 x7 x8 x9 x10) (fun (i : S10000x1.Idx) => x2 (ix1 (i 0)))
        (BitVec.ofNat 32 g.val) q * x11 (ix2 q p) := by
  refine (val_main_v140_apply x0 x1 x2 x3 x4 x5 x6 x7 x8 x9 x10 x11 (ix2 g p)).trans (Finset.sum_congr rfl fun q _ => ?_)
  have el : lidx_main_v140 (ix2 g p) q = ix2 g q := funext fun a => by match a with | ⟨0, _⟩ => rfl | ⟨1, _⟩ => rfl
  have er : ridx_main_v140 (ix2 g p) q = ix2 q p := funext fun a => by match a with | ⟨0, _⟩ => rfl | ⟨1, _⟩ => rfl
  rw [el, er, groups_apply]

/-- The pooled last layer over the nodes. -/
theorem pooled_eq : val_main_v144 (F := Ideal) x0 x1 x2 x3 x4 x5 x6 x7 x8 x9 x10 x11 x12
    = poolFc 256 (val_main_v129 (F := Ideal) x0 x1 x3 x4 x5 x6 x7 x8 x9 x10) (fun (i : S10000x1.Idx) => x2 (ix1 (i 0))) x11 x12 := by
  refine funext fun (i : S256x64.Idx) => ?_
  obtain ⟨g, p, rfl⟩ : ∃ g p, i = ix2 g p := ⟨_, _, eq_ix2 i⟩
  have hb : val_main_v142 (F := Ideal) x12 (ix2 g p) = x12 (ix1 p) :=
    (val_main_v142_apply x12 (ix2 g p)).trans ((val_main_v141_apply x12 _).trans (congrArg x12 (funext fun a => by
      match a with | ⟨0, _⟩ => rfl)))
  rw [val_main_v144_apply, val_main_v143_apply, last_apply, hb, val_main_call5_v0_apply, val_main_call5_cst_apply]
  rfl

include he in
/-- The reference's result is the network at its arguments. -/
theorem result_eq : val_main_v144 (F := Ideal) x0 x1 x2 x3 x4 x5 x6 x7 x8 x9 x10 x11 x12
    = network (endpoint x1 0) (endpoint x1 1) x0 x2 x3 x4 x5 x6 x7 x8 x9 x10 x11 x12 := by
  rw [pooled_eq, nodes_eq x0 x1 x3 x4 x5 x6 x7 x8 x9 x10 he]
  rfl

end Cert.ReferenceIdeal.Gat

end
-- ==== Proof.lean ====
/- The claims of `Cert.Claim`, assembled from the modules under Proof/. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.KernRun
public import proofs.«01_k».proof.Proof.KernValue
public import proofs.«01_k».proof.Proof.RefPool
public import Idealize.ShloMosaic.Lib.Quiescent

@[expose] public section

set_option maxRecDepth 16384

noncomputable section

namespace Cert.Proof

open Idealize.ShloMosaic Idealize.SL.Sem Idealize.ShloMosaic.WordCmp

instance rangeFacts : Cert.Pre_edges_in_range.Facts := ⟨by decide⟩

/-- The precondition is that every edge word is a node number. -/
theorem inRange_of_pre (m : (ℓ : Loc Cert.KernelIdeal.nD Cert.KernelIdeal.τ Cert.KernelIdeal.sig) → Buf (Elt Ideal) ℓ)
    (hp : Cert.Pre_KernelIdeal_edges_in_range m) (c : Dev Cert.KernelIdeal.nD) :
    Cert.Gat.InRange (m ((c.tc : Thread Cert.KernelIdeal.nD Cert.KernelIdeal.τ).loc Cert.KernelIdeal.main_arg1)) := by
  intro i
  have h := congrFun (hp c) i
  rw [show Cert.Pre_edges_in_range.fn (F := Ideal) _ _ _ _ _ _ _ _ _ _ _ _ _ i
      = IntOp.andi (IntOp.cmpi .sge (m ((c.tc : Thread Cert.KernelIdeal.nD Cert.KernelIdeal.τ).loc Cert.KernelIdeal.main_arg1) i) 0#32)
          (IntOp.cmpi .slt (m ((c.tc : Thread Cert.KernelIdeal.nD Cert.KernelIdeal.τ).loc Cert.KernelIdeal.main_arg1) i) (BitVec.ofNat 32 10000)) from rfl,
    andi_sge_zero_slt_ofNat (by decide)] at h
  by_contra hn
  rw [decide_eq_false hn] at h
  exact absurd h (by decide)

/-- The reference's run, its arguments unchanged. -/
theorem reference_frame : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The two programs end with the network at their arguments, which agree. -/
theorem same_result : Cert.algebraic_KernelIdeal_ReferenceIdeal_pre_edges_in_range := by
  intro m ρ m' ρ' hp hagree
  refine ⟨fun c => Cert.KernelIdeal.Gen.W22 m ρ c (Proc.devRef .tc Cert.KernelIdeal.main_v94),
    Cert.KernelIdeal.Gat.run_result m ρ, (θ_run Cert.ReferenceIdeal.defs _ _).mono (fun r h c => ⟨?_, (h c).2⟩)
      (Cert.ReferenceIdeal.Value.run (F := Ideal) m' ρ')⟩
  have he := inRange_of_pre m hp c
  refine (h c).1.trans ((Cert.ReferenceIdeal.Read.val_main_v144_eq (F := Ideal) (StableHlo.launchContents m' c)).trans ?_)
  show Cert.ReferenceIdeal.Read.val_main_v144 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12)) = _
  obtain ⟨h0, h1, h2, h3, h4, h5, h6, h7, h8, h9, h10, h11, h12⟩ := hagree c
  rw [h0, h1, h2, h3, h4, h5, h6, h7, h8, h9, h10, h11, h12]
  exact (Cert.ReferenceIdeal.Gat.result_eq _ _ _ _ _ _ _ _ _ _ _ _ _ he).trans (Cert.KernelIdeal.Gat.at_v94 m ρ c he).symm

theorem claim : Cert.Claim :=
  ⟨Cert.Kernel.Gen.facts, Cert.KernelIdeal.Gen.facts, Cert.ReferenceIdeal.Gen.facts, rangeFacts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, same_result⟩

end Cert.Proof

end
